-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v1_4)) (v4 : (c : Dev Cert.KernelIdeal.nD) → Buf (Elt Ideal) ((c.tc : Thread Cert.KernelIdeal.nD Cert.KernelIdeal.τ).loc Cert.KernelIdeal.main_v1_2)) (v5 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v1_4) = v3 c
          ∧ r.2.mem ((c.tc : Thread Cert.KernelIdeal.nD Cert.KernelIdeal.τ).loc Cert.KernelIdeal.main_v1_2) = v4 c
          ∧ r.2.mem ((c.tc : Thread Cert.KernelIdeal.nD Cert.KernelIdeal.τ).loc Cert.KernelIdeal.main_v4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v164) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x512x18432 : Shape := ⟨3, ![2, 512, 18432]⟩
abbrev S2x512x640 : Shape := ⟨3, ![2, 512, 640]⟩
abbrev S2x18432x640 : Shape := ⟨3, ![2, 18432, 640]⟩
abbrev S_ : Shape := ⟨0, ![]⟩

class Facts : Prop where
  bitsLt_bf16_f32 : FTy.bits .bf16 < FTy.bits .f32
  bcast_S_S2x512x18432 : S_.BroadcastsInDim S2x512x18432 (![] : Fin 0 → Fin S2x512x18432.rank)
  reducesTo_S2x512x18432_S_d0_1_2 : S2x512x18432.ReducesTo [0, 1, 2] S_
  h_S_ : 0 < S_.numel
  bcast_S_S2x512x640 : S_.BroadcastsInDim S2x512x640 (![] : Fin 0 → Fin S2x512x640.rank)
  reducesTo_S2x512x640_S_d0_1_2 : S2x512x640.ReducesTo [0, 1, 2] S_
  bcast_S_S2x18432x640 : S_.BroadcastsInDim S2x18432x640 (![] : Fin 0 → Fin S2x18432x640.rank)
  reducesTo_S2x18432x640_S_d0_1_2 : S2x18432x640.ReducesTo [0, 1, 2] S_

variable [Facts]

def fn {F : FTy → Type} [FloatOps F] (main_arg0 : FVec F S2x512x18432 .bf16) (main_arg1 : FVec F S2x512x640 .f32) (main_arg2 : FVec F S2x18432x640 .f32) : IVec S_ 1 :=
  let main_v0 : FVec F S2x512x18432 .f32 := (extf .f32 · bitsLt_bf16_f32) main_arg0
  let main_v1 : FVec F S2x512x18432 .f32 := Host.absf main_v0
  let main_cst : FVec F S_ .f32 := constant S_ .f32 0x7F800000#32
  let main_v2 : FVec F S2x512x18432 .f32 := broadcastInDim S2x512x18432 ![] bcast_S_S2x512x18432 main_cst
  let main_v3 : IVec S2x512x18432 1 := cmpf .olt main_v1 main_v2
  let main_c : IVec S_ 1 := constantI S_ 1 1#1
  let main_v4 : IVec S_ 1 := (fun x v => Host.reduce IntOp.andi x v reducesTo_S2x512x18432_S_d0_1_2 h_S_) main_v3 main_c
  let main_v5 : FVec F S2x512x640 .f32 := Host.absf main_arg1
  let main_cst_0 : FVec F S_ .f32 := constant S_ .f32 0x7F800000#32
  let main_v6 : FVec F S2x512x640 .f32 := broadcastInDim S2x512x640 ![] bcast_S_S2x512x640 main_cst_0
  let main_v7 : IVec S2x512x640 1 := cmpf .olt main_v5 main_v6
  let main_c_1 : IVec S_ 1 := constantI S_ 1 1#1
  let main_v8 : IVec S_ 1 := (fun x v => Host.reduce IntOp.andi x v reducesTo_S2x512x640_S_d0_1_2 h_S_) main_v7 main_c_1
  let main_v9 : IVec S_ 1 := andi main_v4 main_v8
  let main_v10 : FVec F S2x18432x640 .f32 := Host.absf main_arg2
  let main_cst_2 : FVec F S_ .f32 := constant S_ .f32 0x7F800000#32
  let main_v11 : FVec F S2x18432x640 .f32 := broadcastInDim S2x18432x640 ![] bcast_S_S2x18432x640 main_cst_2
  let main_v12 : IVec S2x18432x640 1 := cmpf .olt main_v10 main_v11
  let main_c_3 : IVec S_ 1 := constantI S_ 1 1#1
  let main_v13 : IVec S_ 1 := (fun x v => Host.reduce IntOp.andi x v reducesTo_S2x18432x640_S_d0_1_2 h_S_) main_v12 main_c_3
  let main_v14 : IVec S_ 1 := andi main_v9 main_v13
  main_v14
-- ==== Kernel.lean ====
abbrev S2x512x18432 : Shape := ⟨3, ![2, 512, 18432]⟩
abbrev S2x512x640 : Shape := ⟨3, ![2, 512, 640]⟩
abbrev S2x18432x640 : Shape := ⟨3, ![2, 18432, 640]⟩
abbrev S2x18432x512 : Shape := ⟨3, ![2, 18432, 512]⟩
abbrev S2x512x9216 : Shape := ⟨3, ![2, 512, 9216]⟩
abbrev S2x288x512 : Shape := ⟨3, ![2, 288, 512]⟩
abbrev S2x3x640x18432 : Shape := ⟨4, ![2, 3, 640, 18432]⟩
abbrev S2x2x640x640 : Shape := ⟨4, ![2, 2, 640, 640]⟩
abbrev S1x512x512 : Shape := ⟨3, ![1, 512, 512]⟩
abbrev S1x512x640 : Shape := ⟨3, ![1, 512, 640]⟩
abbrev S1x512x256 : Shape := ⟨3, ![1, 512, 256]⟩
abbrev S1x8x512 : Shape := ⟨3, ![1, 8, 512]⟩
abbrev S1x3x640x512 : Shape := ⟨4, ![1, 3, 640, 512]⟩
abbrev S1x2x640x640 : Shape := ⟨4, ![1, 2, 640, 640]⟩
abbrev S3840x512 : Shape := ⟨2, ![3840, 512]⟩
abbrev S512x3840 : Shape := ⟨2, ![512, 3840]⟩
abbrev S512x640 : Shape := ⟨2, ![512, 640]⟩
abbrev S640x512 : Shape := ⟨2, ![640, 512]⟩
abbrev S1x1x640x512 : Shape := ⟨4, ![1, 1, 640, 512]⟩
abbrev S1x1x640x640 : Shape := ⟨4, ![1, 1, 640, 640]⟩
abbrev S640x640 : Shape := ⟨2, ![640, 640]⟩
abbrev S640x1024 : Shape := ⟨2, ![640, 1024]⟩
abbrev S1024x640 : Shape := ⟨2, ![1024, 640]⟩
abbrev S512x512 : Shape := ⟨2, ![512, 512]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S32x512 : Shape := ⟨2, ![32, 512]⟩
abbrev S8x512 : Shape := ⟨2, ![8, 512]⟩
abbrev S256x512 : Shape := ⟨2, ![256, 512]⟩
abbrev S512x256 : Shape := ⟨2, ![512, 256]⟩
abbrev S2x640x512 : Shape := ⟨3, ![2, 640, 512]⟩
abbrev S2x1x512 : Shape := ⟨3, ![2, 1, 512]⟩
abbrev S2x512x288 : Shape := ⟨3, ![2, 512, 288]⟩
abbrev S1x288x512 : Shape := ⟨3, ![1, 288, 512]⟩
abbrev S1x640x512 : Shape := ⟨3, ![1, 640, 512]⟩
abbrev S1x1x512 : Shape := ⟨3, ![1, 1, 512]⟩
abbrev S1x512x288 : Shape := ⟨3, ![1, 512, 288]⟩
abbrev S288x512 : Shape := ⟨2, ![288, 512]⟩
abbrev S512x288 : Shape := ⟨2, ![512, 288]⟩
abbrev S640x3072 : Shape := ⟨2, ![640, 3072]⟩
abbrev S3072x512 : Shape := ⟨2, ![3072, 512]⟩
abbrev S640x3840 : Shape := ⟨2, ![640, 3840]⟩
abbrev S2x512 : Shape := ⟨2, ![2, 512]⟩

abbrev nBuf : Space → Nat
  | .hbm => 18
  | .vmem => 51
  | .smem => 0
  | _ => 0

abbrev bufTy : (tb : Table) → Fin (tcTables nBuf tb) → BufTy
  | .hbm, ⟨0, _⟩ => ⟨S2x512x18432, .bf16⟩
  | .hbm, ⟨1, _⟩ => ⟨S2x512x640, .f32⟩
  | .hbm, ⟨2, _⟩ => ⟨S2x18432x640, .f32⟩
  | .hbm, ⟨3, _⟩ => ⟨S2x18432x512, .f32⟩
  | .hbm, ⟨4, _⟩ => ⟨S2x18432x512, .i8⟩
  | .hbm, ⟨5, _⟩ => ⟨S2x512x9216, .i8⟩
  | .hbm, ⟨6, _⟩ => ⟨S2x288x512, .f32⟩
  | .hbm, ⟨7, _⟩ => ⟨S2x3x640x18432, .bf16⟩
  | .hbm, ⟨8, _⟩ => ⟨S2x2x640x640, .f32⟩
  | .hbm, ⟨9, _⟩ => ⟨S2x640x512, .f32⟩
  | .hbm, ⟨10, _⟩ => ⟨S2x1x512, .f32⟩
  | .hbm, ⟨11, _⟩ => ⟨S2x512x288, .i8⟩
  | .hbm, ⟨12, _⟩ => ⟨S2x1x512, .f32⟩
  | .hbm, ⟨13, _⟩ => ⟨S2x512x288, .f32⟩
  | .hbm, ⟨14, _⟩ => ⟨S2x512x640, .f32⟩
  | .hbm, ⟨15, _⟩ => ⟨S2x1x512, .f32⟩
  | .hbm, ⟨16, _⟩ => ⟨S2x512, .f32⟩
  | .hbm, ⟨17, _⟩ => ⟨S2x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x640, .f32⟩
  | .local _ .vmem, ⟨3, _⟩ => ⟨S1x512x640, .f32⟩
  | .local _ .vmem, ⟨4, _⟩ => ⟨S1x512x640, .f32⟩
  | .local _ .vmem, ⟨5, _⟩ => ⟨S1x512x640, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .i8⟩
  | .local _ .vmem, ⟨9, _⟩ => ⟨S1x512x512, .i8⟩
  | .local _ .vmem, ⟨10, _⟩ => ⟨S1x512x256, .i8⟩
  | .local _ .vmem, ⟨11, _⟩ => ⟨S1x512x256, .i8⟩
  | .local _ .vmem, ⟨12, _⟩ => ⟨S1x8x512, .f32⟩
  | .local _ .vmem, ⟨13, _⟩ => ⟨S1x8x512, .f32⟩
  | .local _ .vmem, ⟨14, _⟩ => ⟨S1x3x640x512, .bf16⟩
  | .local _ .vmem, ⟨15, _⟩ => ⟨S1x3x640x512, .bf16⟩
  | .local _ .vmem, ⟨16, _⟩ => ⟨S1x2x640x640, .f32⟩
  | .local _ .vmem, ⟨17, _⟩ => ⟨S1x2x640x640, .f32⟩
  | .local _ .vmem, ⟨18, _⟩ => ⟨S3840x512, .bf16⟩
  | .local _ .vmem, ⟨19, _⟩ => ⟨S512x3840, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .i8⟩
  | .local _ .vmem, ⟨23, _⟩ => ⟨S1x512x512, .i8⟩
  | .local _ .vmem, ⟨24, _⟩ => ⟨S1x288x512, .f32⟩
  | .local _ .vmem, ⟨25, _⟩ => ⟨S1x288x512, .f32⟩
  | .local _ .vmem, ⟨26, _⟩ => ⟨S1x3x640x512, .bf16⟩
  | .local _ .vmem, ⟨27, _⟩ => ⟨S1x3x640x512, .bf16⟩
  | .local _ .vmem, ⟨28, _⟩ => ⟨S1x640x512, .f32⟩
  | .local _ .vmem, ⟨29, _⟩ => ⟨S1x640x512, .f32⟩
  | .local _ .vmem, ⟨30, _⟩ => ⟨S1x1x512, .f32⟩
  | .local _ .vmem, ⟨31, _⟩ => ⟨S1x1x512, .f32⟩
  | .local _ .vmem, ⟨32, _⟩ => ⟨S1x512x288, .i8⟩
  | .local _ .vmem, ⟨33, _⟩ => ⟨S1x512x288, .i8⟩
  | .local _ .vmem, ⟨34, _⟩ => ⟨S1x1x512, .f32⟩
  | .local _ .vmem, ⟨35, _⟩ => ⟨S1x1x512, .f32⟩
  | .local _ .vmem, ⟨36, _⟩ => ⟨S1x512x288, .f32⟩
  | .local _ .vmem, ⟨37, _⟩ => ⟨S1x512x288, .f32⟩
  | .local _ .vmem, ⟨38, _⟩ => ⟨S288x512, .f32⟩
  | .local _ .vmem, ⟨39, _⟩ => ⟨S1x512x640, .f32⟩
  | .local _ .vmem, ⟨40, _⟩ => ⟨S1x512x640, .f32⟩
  | .local _ .vmem, ⟨41, _⟩ => ⟨S1x2x640x640, .f32⟩
  | .local _ .vmem, ⟨42, _⟩ => ⟨S1x2x640x640, .f32⟩
  | .local _ .vmem, ⟨43, _⟩ => ⟨S1x640x512, .f32⟩
  | .local _ .vmem, ⟨44, _⟩ => ⟨S1x640x512, .f32⟩
  | .local _ .vmem, ⟨45, _⟩ => ⟨S1x1x512, .f32⟩
  | .local _ .vmem, ⟨46, _⟩ => ⟨S1x1x512, .f32⟩
  | .local _ .vmem, ⟨47, _⟩ => ⟨S1x512x640, .f32⟩
  | .local _ .vmem, ⟨48, _⟩ => ⟨S1x512x640, .f32⟩
  | .local _ .vmem, ⟨49, _⟩ => ⟨S1x1x512, .f32⟩
  | .local _ .vmem, ⟨50, _⟩ => ⟨S1x1x512, .f32⟩
  | _, _ => ⟨S2x512x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_scratch0 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc2_stg3_0 : Ref sig .tc := ⟨.vmem, 45, rfl⟩
abbrev cc2_stg3_1 : Ref sig .tc := ⟨.vmem, 46, rfl⟩
abbrev cc2_stg4_0 : Ref sig .tc := ⟨.vmem, 47, rfl⟩
abbrev cc2_stg4_1 : Ref sig .tc := ⟨.vmem, 48, rfl⟩
abbrev cc2_stg5_0 : Ref sig .tc := ⟨.vmem, 49, rfl⟩
abbrev cc2_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47

abbrev nD : Nat := 1
abbrev τ : Topo := Topo.v7x

variable {F : FTy → Type} [FloatOps F]

abbrev grid0 : Pipeline.Grid := ⟨2, ![2, 36], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x640x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 36], ![false, false]⟩

def k1_mult1 (i : grid1.Coords) : BitVec 32 :=
  let arg1 : BitVec 32 := BitVec.ofNat 32 (i 1).val
  let c8_i32 : BitVec 32 := 8#32
  let v3 : BitVec 32 := Scalar.muli arg1 c8_i32
  v3
def k1_off1 (i : grid1.Coords) : Fin 2 → Nat :=
  let arg1 : BitVec 32 := BitVec.ofNat 32 (i 1).val
  let c8_i32 : BitVec 32 := 8#32
  let v3 : BitVec 32 := Scalar.muli arg1 c8_i32
  let v4 : BitVec 32 := v3
  let v5 : Index := Scalar.indexCast v4
  let c0 : Index := 0#32
  ![v5.toNat, 0]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x288x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3x640x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x640x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x288 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512x288 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x640 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x640x640 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x640x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x512x640 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S2x512x18432 : Shape := ⟨3, ![2, 512, 18432]⟩
abbrev S2x512x640 : Shape := ⟨3, ![2, 512, 640]⟩
abbrev S2x18432x640 : Shape := ⟨3, ![2, 18432, 640]⟩
abbrev S2x512x9216 : Shape := ⟨3, ![2, 512, 9216]⟩
abbrev S2x9216x1280 : Shape := ⟨3, ![2, 9216, 1280]⟩
abbrev S2x9216x640 : Shape := ⟨3, ![2, 9216, 640]⟩
abbrev S2x512x288x32 : Shape := ⟨4, ![2, 512, 288, 32]⟩
abbrev S_ : Shape := ⟨0, ![]⟩
abbrev S2x512x288 : Shape := ⟨3, ![2, 512, 288]⟩
abbrev S2x512x288x1 : Shape := ⟨4, ![2, 512, 288, 1]⟩
abbrev S2x512 : Shape := ⟨2, ![2, 512]⟩
abbrev S2x512x1 : Shape := ⟨3, ![2, 512, 1]⟩

abbrev nBuf : Space → Nat
  | .hbm => 420
  | .vmem => 0
  | .smem => 0
  | _ => 0

abbrev hbmTy0_0 (i : Nat) : BufTy := match i % 128 with
  | 0 => ⟨S2x512x18432, .bf16⟩
  | 1 => ⟨S2x512x640, .f32⟩
  | 2 => ⟨S2x18432x640, .f32⟩
  | 3 => ⟨S2x512x9216, .bf16⟩
  | 4 => ⟨S2x512x9216, .f32⟩
  | 5 => ⟨S2x512x9216, .bf16⟩
  | 6 => ⟨S2x512x9216, .f32⟩
  | 7 => ⟨S2x9216x1280, .f32⟩
  | 8 => ⟨S2x9216x640, .f32⟩
  | 9 => ⟨S2x9216x640, .f32⟩
  | 10 => ⟨S2x512x9216, .f32⟩
  | 11 => ⟨S2x512x9216, .f32⟩
  | 12 => ⟨S2x512x9216, .f32⟩
  | 13 => ⟨S2x512x9216, .f32⟩
  | 14 => ⟨S2x512x288x32, .f32⟩
  | 15 => ⟨S2x512x288x32, .f32⟩
  | 16 => ⟨S2x512x288x32, .f32⟩
  | 17 => ⟨S_, .f32⟩
  | 18 => ⟨S2x512x288, .f32⟩
  | 19 => ⟨S2x512x288x32, .f32⟩
  | 20 => ⟨S_, .f32⟩
  | 21 => ⟨S2x512x288, .f32⟩
  | 22 => ⟨S2x512x288, .f32⟩
  | 23 => ⟨S_, .f32⟩
  | 24 => ⟨S2x512x288, .f32⟩
  | 25 => ⟨S2x512x288, .i1⟩
  | 26 => ⟨S_, .f32⟩
  | 27 => ⟨S2x512x288, .f32⟩
  | 28 => ⟨S2x512x288, .f32⟩
  | 29 => ⟨S2x512x288x1, .f32⟩
  | 30 => ⟨S2x512x288x32, .f32⟩
  | 31 => ⟨S2x512x288x32, .f32⟩
  | 32 => ⟨S_, .i32⟩
  | 33 => ⟨S2x512x288x32, .i32⟩
  | 34 => ⟨S_, .f32⟩
  | 35 => ⟨S2x512x288x32, .f32⟩
  | 36 => ⟨S2x512x288x32, .i1⟩
  | 37 => ⟨S2x512x288x32, .i32⟩
  | 38 => ⟨S2x512x288x32, .i32⟩
  | 39 => ⟨S_, .f32⟩
  | 40 => ⟨S2x512x288x32, .f32⟩
  | 41 => ⟨S2x512x288x32, .i1⟩
  | 42 => ⟨S2x512x288x32, .i32⟩
  | 43 => ⟨S2x512x288x32, .i32⟩
  | 44 => ⟨S_, .f32⟩
  | 45 => ⟨S2x512x288x32, .f32⟩
  | 46 => ⟨S2x512x288x32, .i1⟩
  | 47 => ⟨S2x512x288x32, .i32⟩
  | 48 => ⟨S2x512x288x32, .i32⟩
  | 49 => ⟨S_, .f32⟩
  | 50 => ⟨S2x512x288x32, .f32⟩
  | 51 => ⟨S2x512x288x32, .i1⟩
  | 52 => ⟨S2x512x288x32, .i32⟩
  | 53 => ⟨S2x512x288x32, .i32⟩
  | 54 => ⟨S_, .f32⟩
  | 55 => ⟨S2x512x288x32, .f32⟩
  | 56 => ⟨S2x512x288x32, .i1⟩
  | 57 => ⟨S2x512x288x32, .i32⟩
  | 58 => ⟨S2x512x288x32, .i32⟩
  | 59 => ⟨S_, .f32⟩
  | 60 => ⟨S2x512x288x32, .f32⟩
  | 61 => ⟨S2x512x288x32, .i1⟩
  | 62 => ⟨S2x512x288x32, .i32⟩
  | 63 => ⟨S2x512x288x32, .i32⟩
  | 64 => ⟨S_, .f32⟩
  | 65 => ⟨S2x512x288x32, .f32⟩
  | 66 => ⟨S2x512x288x32, .i1⟩
  | 67 => ⟨S2x512x288x32, .i32⟩
  | 68 => ⟨S2x512x288x32, .i32⟩
  | 69 => ⟨S_, .f32⟩
  | 70 => ⟨S2x512x288x32, .f32⟩
  | 71 => ⟨S2x512x288x32, .i1⟩
  | 72 => ⟨S2x512x288x32, .i32⟩
  | 73 => ⟨S2x512x288x32, .i32⟩
  | 74 => ⟨S_, .f32⟩
  | 75 => ⟨S2x512x288x32, .f32⟩
  | 76 => ⟨S2x512x288x32, .i1⟩
  | 77 => ⟨S2x512x288x32, .i32⟩
  | 78 => ⟨S2x512x288x32, .i32⟩
  | 79 => ⟨S_, .f32⟩
  | 80 => ⟨S2x512x288x32, .f32⟩
  | 81 => ⟨S2x512x288x32, .i1⟩
  | 82 => ⟨S2x512x288x32, .i32⟩
  | 83 => ⟨S2x512x288x32, .i32⟩
  | 84 => ⟨S_, .f32⟩
  | 85 => ⟨S2x512x288x32, .f32⟩
  | 86 => ⟨S2x512x288x32, .i1⟩
  | 87 => ⟨S2x512x288x32, .i32⟩
  | 88 => ⟨S2x512x288x32, .i32⟩
  | 89 => ⟨S_, .f32⟩
  | 90 => ⟨S2x512x288x32, .f32⟩
  | 91 => ⟨S2x512x288x32, .i1⟩
  | 92 => ⟨S2x512x288x32, .i32⟩
  | 93 => ⟨S2x512x288x32, .i32⟩
  | 94 => ⟨S_, .f32⟩
  | 95 => ⟨S2x512x288x32, .f32⟩
  | 96 => ⟨S2x512x288x32, .i1⟩
  | 97 => ⟨S2x512x288x32, .i32⟩
  | 98 => ⟨S2x512x288x32, .i32⟩
  | 99 => ⟨S_, .f32⟩
  | 100 => ⟨S2x512x288x32, .f32⟩
  | 101 => ⟨S2x512x288x32, .i1⟩
  | 102 => ⟨S2x512x288x32, .i32⟩
  | 103 => ⟨S2x512x288x32, .i32⟩
  | 104 => ⟨S_, .f32⟩
  | 105 => ⟨S2x512x288x32, .f32⟩
  | 106 => ⟨S2x512x288x32, .i1⟩
  | 107 => ⟨S2x512x288x32, .i32⟩
  | 108 => ⟨S2x512x288x32, .i32⟩
  | 109 => ⟨S2x512x9216, .i32⟩
  | 110 => ⟨S2x512x288x1, .f32⟩
  | 111 => ⟨S2x512x288x32, .f32⟩
  | 112 => ⟨S2x512x288x32, .f32⟩
  | 113 => ⟨S_, .i32⟩
  | 114 => ⟨S2x512x288x32, .i32⟩
  | 115 => ⟨S_, .f32⟩
  | 116 => ⟨S2x512x288x32, .f32⟩
  | 117 => ⟨S2x512x288x32, .i1⟩
  | 118 => ⟨S2x512x288x32, .i32⟩
  | 119 => ⟨S2x512x288x32, .i32⟩
  | 120 => ⟨S_, .f32⟩
  | 121 => ⟨S2x512x288x32, .f32⟩
  | 122 => ⟨S2x512x288x32, .i1⟩
  | 123 => ⟨S2x512x288x32, .i32⟩
  | 124 => ⟨S2x512x288x32, .i32⟩
  | 125 => ⟨S_, .f32⟩
  | 126 => ⟨S2x512x288x32, .f32⟩
  | 127 => ⟨S2x512x288x32, .i1⟩
  | _ => ⟨S2x512x18432, .bf16⟩

abbrev hbmTy0_1 (i : Nat) : BufTy := match i % 128 with
  | 0 => ⟨S2x512x288x32, .i32⟩
  | 1 => ⟨S2x512x288x32, .i32⟩
  | 2 => ⟨S_, .f32⟩
  | 3 => ⟨S2x512x288x32, .f32⟩
  | 4 => ⟨S2x512x288x32, .i1⟩
  | 5 => ⟨S2x512x288x32, .i32⟩
  | 6 => ⟨S2x512x288x32, .i32⟩
  | 7 => ⟨S_, .f32⟩
  | 8 => ⟨S2x512x288x32, .f32⟩
  | 9 => ⟨S2x512x288x32, .i1⟩
  | 10 => ⟨S2x512x288x32, .i32⟩
  | 11 => ⟨S2x512x288x32, .i32⟩
  | 12 => ⟨S_, .f32⟩
  | 13 => ⟨S2x512x288x32, .f32⟩
  | 14 => ⟨S2x512x288x32, .i1⟩
  | 15 => ⟨S2x512x288x32, .i32⟩
  | 16 => ⟨S2x512x288x32, .i32⟩
  | 17 => ⟨S_, .f32⟩
  | 18 => ⟨S2x512x288x32, .f32⟩
  | 19 => ⟨S2x512x288x32, .i1⟩
  | 20 => ⟨S2x512x288x32, .i32⟩
  | 21 => ⟨S2x512x288x32, .i32⟩
  | 22 => ⟨S_, .f32⟩
  | 23 => ⟨S2x512x288x32, .f32⟩
  | 24 => ⟨S2x512x288x32, .i1⟩
  | 25 => ⟨S2x512x288x32, .i32⟩
  | 26 => ⟨S2x512x288x32, .i32⟩
  | 27 => ⟨S_, .f32⟩
  | 28 => ⟨S2x512x288x32, .f32⟩
  | 29 => ⟨S2x512x288x32, .i1⟩
  | 30 => ⟨S2x512x288x32, .i32⟩
  | 31 => ⟨S2x512x288x32, .i32⟩
  | 32 => ⟨S_, .f32⟩
  | 33 => ⟨S2x512x288x32, .f32⟩
  | 34 => ⟨S2x512x288x32, .i1⟩
  | 35 => ⟨S2x512x288x32, .i32⟩
  | 36 => ⟨S2x512x288x32, .i32⟩
  | 37 => ⟨S_, .f32⟩
  | 38 => ⟨S2x512x288x32, .f32⟩
  | 39 => ⟨S2x512x288x32, .i1⟩
  | 40 => ⟨S2x512x288x32, .i32⟩
  | 41 => ⟨S2x512x288x32, .i32⟩
  | 42 => ⟨S_, .f32⟩
  | 43 => ⟨S2x512x288x32, .f32⟩
  | 44 => ⟨S2x512x288x32, .i1⟩
  | 45 => ⟨S2x512x288x32, .i32⟩
  | 46 => ⟨S2x512x288x32, .i32⟩
  | 47 => ⟨S_, .f32⟩
  | 48 => ⟨S2x512x288x32, .f32⟩
  | 49 => ⟨S2x512x288x32, .i1⟩
  | 50 => ⟨S2x512x288x32, .i32⟩
  | 51 => ⟨S2x512x288x32, .i32⟩
  | 52 => ⟨S_, .f32⟩
  | 53 => ⟨S2x512x288x32, .f32⟩
  | 54 => ⟨S2x512x288x32, .i1⟩
  | 55 => ⟨S2x512x288x32, .i32⟩
  | 56 => ⟨S2x512x288x32, .i32⟩
  | 57 => ⟨S_, .f32⟩
  | 58 => ⟨S2x512x288x32, .f32⟩
  | 59 => ⟨S2x512x288x32, .i1⟩
  | 60 => ⟨S2x512x288x32, .i32⟩
  | 61 => ⟨S2x512x288x32, .i32⟩
  | 62 => ⟨S2x512x9216, .i32⟩
  | 63 => ⟨S_, .i32⟩
  | 64 => ⟨S2x512x9216, .i32⟩
  | 65 => ⟨S2x512x9216, .i32⟩
  | 66 => ⟨S2x512x9216, .i32⟩
  | 67 => ⟨S2x512x9216, .i8⟩
  | 68 => ⟨S_, .f32⟩
  | 69 => ⟨S2x512, .f32⟩
  | 70 => ⟨S_, .f32⟩
  | 71 => ⟨S2x512, .f32⟩
  | 72 => ⟨S2x512, .f32⟩
  | 73 => ⟨S2x512x1, .f32⟩
  | 74 => ⟨S2x512x288, .f32⟩
  | 75 => ⟨S2x512x288, .f32⟩
  | 76 => ⟨S2x512x288, .f32⟩
  | 77 => ⟨S_, .i32⟩
  | 78 => ⟨S_, .i32⟩
  | 79 => ⟨S_, .f32⟩
  | 80 => ⟨S2x512x288, .f32⟩
  | 81 => ⟨S2x512x288, .f32⟩
  | 82 => ⟨S_, .f32⟩
  | 83 => ⟨S2x512x288, .f32⟩
  | 84 => ⟨S2x512x288, .f32⟩
  | 85 => ⟨S2x512x288, .i32⟩
  | 86 => ⟨S2x512x288, .i8⟩
  | 87 => ⟨S2x512x288, .i32⟩
  | 88 => ⟨S2x512x288, .f32⟩
  | 89 => ⟨S2x512x1, .f32⟩
  | 90 => ⟨S2x512x288, .f32⟩
  | 91 => ⟨S2x512x288, .f32⟩
  | 92 => ⟨S2x512x9216, .i32⟩
  | 93 => ⟨S_, .i32⟩
  | 94 => ⟨S2x512x9216, .i32⟩
  | 95 => ⟨S2x512x9216, .i32⟩
  | 96 => ⟨S2x512x9216, .i32⟩
  | 97 => ⟨S_, .i32⟩
  | 98 => ⟨S2x512x9216, .i32⟩
  | 99 => ⟨S2x512x9216, .i32⟩
  | 100 => ⟨S_, .i32⟩
  | 101 => ⟨S2x512x9216, .i32⟩
  | 102 => ⟨S2x512x9216, .i32⟩
  | 103 => ⟨S_, .i32⟩
  | 104 => ⟨S2x512x9216, .i32⟩
  | 105 => ⟨S2x512x9216, .i32⟩
  | 106 => ⟨S_, .i32⟩
  | 107 => ⟨S2x512x9216, .i32⟩
  | 108 => ⟨S2x512x9216, .i1⟩
  | 109 => ⟨S_, .i32⟩
  | 110 => ⟨S2x512x9216, .i32⟩
  | 111 => ⟨S2x512x9216, .i32⟩
  | 112 => ⟨S_, .i32⟩
  | 113 => ⟨S2x512x9216, .i32⟩
  | 114 => ⟨S2x512x9216, .i32⟩
  | 115 => ⟨S_, .i32⟩
  | 116 => ⟨S2x512x9216, .i32⟩
  | 117 => ⟨S2x512x9216, .i1⟩
  | 118 => ⟨S_, .i32⟩
  | 119 => ⟨S2x512x9216, .i32⟩
  | 120 => ⟨S2x512x9216, .i32⟩
  | 121 => ⟨S_, .i32⟩
  | 122 => ⟨S2x512x9216, .i32⟩
  | 123 => ⟨S2x512x9216, .i32⟩
  | 124 => ⟨S_, .i32⟩
  | 125 => ⟨S2x512x9216, .i32⟩
  | 126 => ⟨S2x512x9216, .i1⟩
  | 127 => ⟨S_, .i32⟩
  | _ => ⟨S2x512x18432, .bf16⟩

abbrev hbmTy0_2 (i : Nat) : BufTy := match i % 128 with
  | 0 => ⟨S2x512x9216, .i32⟩
  | 1 => ⟨S2x512x9216, .i32⟩
  | 2 => ⟨S_, .i32⟩
  | 3 => ⟨S2x512x9216, .i32⟩
  | 4 => ⟨S2x512x9216, .i32⟩
  | 5 => ⟨S_, .i32⟩
  | 6 => ⟨S2x512x9216, .i32⟩
  | 7 => ⟨S2x512x9216, .i1⟩
  | 8 => ⟨S_, .f32⟩
  | 9 => ⟨S_, .f32⟩
  | 10 => ⟨S2x512x9216, .f32⟩
  | 11 => ⟨S2x512x9216, .f32⟩
  | 12 => ⟨S2x512x9216, .f32⟩
  | 13 => ⟨S_, .f32⟩
  | 14 => ⟨S_, .f32⟩
  | 15 => ⟨S2x512x9216, .f32⟩
  | 16 => ⟨S2x512x9216, .f32⟩
  | 17 => ⟨S2x512x9216, .f32⟩
  | 18 => ⟨S2x512x9216, .f32⟩
  | 19 => ⟨S_, .f32⟩
  | 20 => ⟨S_, .f32⟩
  | 21 => ⟨S2x512x9216, .f32⟩
  | 22 => ⟨S2x512x9216, .f32⟩
  | 23 => ⟨S2x512x9216, .f32⟩
  | 24 => ⟨S_, .f32⟩
  | 25 => ⟨S_, .f32⟩
  | 26 => ⟨S2x512x9216, .f32⟩
  | 27 => ⟨S2x512x9216, .f32⟩
  | 28 => ⟨S2x512x9216, .f32⟩
  | 29 => ⟨S2x512x9216, .f32⟩
  | 30 => ⟨S2x512x9216, .f32⟩
  | 31 => ⟨S_, .f32⟩
  | 32 => ⟨S_, .f32⟩
  | 33 => ⟨S2x512x9216, .f32⟩
  | 34 => ⟨S2x512x9216, .f32⟩
  | 35 => ⟨S2x512x9216, .f32⟩
  | 36 => ⟨S_, .f32⟩
  | 37 => ⟨S_, .f32⟩
  | 38 => ⟨S2x512x9216, .f32⟩
  | 39 => ⟨S2x512x9216, .f32⟩
  | 40 => ⟨S2x512x9216, .f32⟩
  | 41 => ⟨S2x512x9216, .f32⟩
  | 42 => ⟨S_, .f32⟩
  | 43 => ⟨S_, .f32⟩
  | 44 => ⟨S2x512x9216, .f32⟩
  | 45 => ⟨S2x512x9216, .f32⟩
  | 46 => ⟨S2x512x9216, .f32⟩
  | 47 => ⟨S_, .f32⟩
  | 48 => ⟨S_, .f32⟩
  | 49 => ⟨S2x512x9216, .f32⟩
  | 50 => ⟨S2x512x9216, .f32⟩
  | 51 => ⟨S2x512x9216, .f32⟩
  | 52 => ⟨S2x512x9216, .f32⟩
  | 53 => ⟨S2x512x9216, .f32⟩
  | 54 => ⟨S2x512x9216, .f32⟩
  | 55 => ⟨S2x512x288x32, .f32⟩
  | 56 => ⟨S2x512x288x1, .f32⟩
  | 57 => ⟨S2x512x288x32, .f32⟩
  | 58 => ⟨S2x512x288x32, .f32⟩
  | 59 => ⟨S2x512x9216, .f32⟩
  | 60 => ⟨S2x512x9216, .f32⟩
  | 61 => ⟨S_, .i32⟩
  | 62 => ⟨S2x512x9216, .i32⟩
  | 63 => ⟨S2x512x9216, .i32⟩
  | 64 => ⟨S_, .i32⟩
  | 65 => ⟨S2x512x9216, .i32⟩
  | 66 => ⟨S2x512x9216, .i32⟩
  | 67 => ⟨S_, .i32⟩
  | 68 => ⟨S2x512x9216, .i32⟩
  | 69 => ⟨S2x512x9216, .i1⟩
  | 70 => ⟨S_, .i32⟩
  | 71 => ⟨S2x512x9216, .i32⟩
  | 72 => ⟨S2x512x9216, .i32⟩
  | 73 => ⟨S_, .i32⟩
  | 74 => ⟨S2x512x9216, .i32⟩
  | 75 => ⟨S2x512x9216, .i32⟩
  | 76 => ⟨S_, .i32⟩
  | 77 => ⟨S2x512x9216, .i32⟩
  | 78 => ⟨S2x512x9216, .i1⟩
  | 79 => ⟨S_, .i32⟩
  | 80 => ⟨S2x512x9216, .i32⟩
  | 81 => ⟨S2x512x9216, .i32⟩
  | 82 => ⟨S_, .i32⟩
  | 83 => ⟨S2x512x9216, .i32⟩
  | 84 => ⟨S2x512x9216, .i32⟩
  | 85 => ⟨S_, .i32⟩
  | 86 => ⟨S2x512x9216, .i32⟩
  | 87 => ⟨S2x512x9216, .i1⟩
  | 88 => ⟨S_, .i32⟩
  | 89 => ⟨S2x512x9216, .i32⟩
  | 90 => ⟨S2x512x9216, .i32⟩
  | 91 => ⟨S_, .i32⟩
  | 92 => ⟨S2x512x9216, .i32⟩
  | 93 => ⟨S2x512x9216, .i32⟩
  | 94 => ⟨S_, .i32⟩
  | 95 => ⟨S2x512x9216, .i32⟩
  | 96 => ⟨S2x512x9216, .i1⟩
  | 97 => ⟨S_, .f32⟩
  | 98 => ⟨S_, .f32⟩
  | 99 => ⟨S2x512x9216, .f32⟩
  | 100 => ⟨S2x512x9216, .f32⟩
  | 101 => ⟨S2x512x9216, .f32⟩
  | 102 => ⟨S_, .f32⟩
  | 103 => ⟨S_, .f32⟩
  | 104 => ⟨S2x512x9216, .f32⟩
  | 105 => ⟨S2x512x9216, .f32⟩
  | 106 => ⟨S2x512x9216, .f32⟩
  | 107 => ⟨S2x512x9216, .f32⟩
  | 108 => ⟨S_, .f32⟩
  | 109 => ⟨S_, .f32⟩
  | 110 => ⟨S2x512x9216, .f32⟩
  | 111 => ⟨S2x512x9216, .f32⟩
  | 112 => ⟨S2x512x9216, .f32⟩
  | 113 => ⟨S_, .f32⟩
  | 114 => ⟨S_, .f32⟩
  | 115 => ⟨S2x512x9216, .f32⟩
  | 116 => ⟨S2x512x9216, .f32⟩
  | 117 => ⟨S2x512x9216, .f32⟩
  | 118 => ⟨S2x512x9216, .f32⟩
  | 119 => ⟨S2x512x9216, .f32⟩
  | 120 => ⟨S_, .f32⟩
  | 121 => ⟨S_, .f32⟩
  | 122 => ⟨S2x512x9216, .f32⟩
  | 123 => ⟨S2x512x9216, .f32⟩
  | 124 => ⟨S2x512x9216, .f32⟩
  | 125 => ⟨S_, .f32⟩
  | 126 => ⟨S_, .f32⟩
  | 127 => ⟨S2x512x9216, .f32⟩
  | _ => ⟨S2x512x18432, .bf16⟩

abbrev hbmTy0_3 (i : Nat) : BufTy := match i % 128 with
  | 0 => ⟨S2x512x9216, .f32⟩
  | 1 => ⟨S2x512x9216, .f32⟩
  | 2 => ⟨S2x512x9216, .f32⟩
  | 3 => ⟨S_, .f32⟩
  | 4 => ⟨S_, .f32⟩
  | 5 => ⟨S2x512x9216, .f32⟩
  | 6 => ⟨S2x512x9216, .f32⟩
  | 7 => ⟨S2x512x9216, .f32⟩
  | 8 => ⟨S_, .f32⟩
  | 9 => ⟨S_, .f32⟩
  | 10 => ⟨S2x512x9216, .f32⟩
  | 11 => ⟨S2x512x9216, .f32⟩
  | 12 => ⟨S2x512x9216, .f32⟩
  | 13 => ⟨S2x512x9216, .f32⟩
  | 14 => ⟨S2x512x9216, .f32⟩
  | 15 => ⟨S2x512x9216, .f32⟩
  | 16 => ⟨S2x512x288x32, .f32⟩
  | 17 => ⟨S2x512x288x1, .f32⟩
  | 18 => ⟨S2x512x288x32, .f32⟩
  | 19 => ⟨S2x512x288x32, .f32⟩
  | 20 => ⟨S2x512x9216, .f32⟩
  | 21 => ⟨S2x512x9216, .f32⟩
  | 22 => ⟨S2x512x640, .f32⟩
  | 23 => ⟨S2x512x640, .f32⟩
  | 24 => ⟨S2x512x640, .f32⟩
  | 25 => ⟨S2x512x9216, .f32⟩
  | 26 => ⟨S2x512x9216, .f32⟩
  | 27 => ⟨S2x512x9216, .f32⟩
  | 28 => ⟨S2x512x9216, .f32⟩
  | 29 => ⟨S2x512x9216, .f32⟩
  | 30 => ⟨S_, .f32⟩
  | 31 => ⟨S2x512, .f32⟩
  | 32 => ⟨S2x512x9216, .f32⟩
  | 33 => ⟨S_, .f32⟩
  | 34 => ⟨S2x512, .f32⟩
  | 35 => ⟨S2x512, .f32⟩
  | _ => ⟨S2x512x18432, .bf16⟩

abbrev hbmTy (i : Nat) : BufTy := match i / 128 with
  | 0 => hbmTy0_0 i
  | 1 => hbmTy0_1 i
  | 2 => hbmTy0_2 i
  | 3 => hbmTy0_3 i
  | _ => ⟨S2x512x18432, .bf16⟩

abbrev bufTy : (tb : Table) → Fin (tcTables nBuf tb) → BufTy
  | .hbm, ⟨i, _⟩ => hbmTy i
  | _, _ => ⟨S2x512x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_c_18 : Ref sig .tc := ⟨.hbm, 113, rfl⟩
abbrev main_v89 : Ref sig .tc := ⟨.hbm, 114, rfl⟩
abbrev main_cst_19 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_23 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_24 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_25 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_26 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_27 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_28 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_29 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_30 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_31 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_32 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_33 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_c_34 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_35 : Ref sig .tc := ⟨.hbm, 196, rfl⟩
abbrev main_v155 : Ref sig .tc := ⟨.hbm, 197, rfl⟩
abbrev main_cst_36 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_c_37 : Ref sig .tc := ⟨.hbm, 205, rfl⟩
abbrev main_c_38 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_call2_v3 : Ref sig .tc := ⟨.hbm, 210, rfl⟩
abbrev main_call2_v4 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_c_39 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_c_40 : Ref sig .tc := ⟨.hbm, 225, rfl⟩
abbrev main_v174 : Ref sig .tc := ⟨.hbm, 226, rfl⟩
abbrev main_v175 : Ref sig .tc := ⟨.hbm, 227, rfl⟩
abbrev main_c_41 : Ref sig .tc := ⟨.hbm, 228, rfl⟩
abbrev main_v176 : Ref sig .tc := ⟨.hbm, 229, rfl⟩
abbrev main_v177 : Ref sig .tc := ⟨.hbm, 230, rfl⟩
abbrev main_c_42 : Ref sig .tc := ⟨.hbm, 231, rfl⟩
abbrev main_v178 : Ref sig .tc := ⟨.hbm, 232, rfl⟩
abbrev main_v179 : Ref sig .tc := ⟨.hbm, 233, rfl⟩
abbrev main_c_43 : Ref sig .tc := ⟨.hbm, 234, rfl⟩
abbrev main_v180 : Ref sig .tc := ⟨.hbm, 235, rfl⟩
abbrev main_v181 : Ref sig .tc := ⟨.hbm, 236, rfl⟩
abbrev main_c_44 : Ref sig .tc := ⟨.hbm, 237, rfl⟩
abbrev main_v182 : Ref sig .tc := ⟨.hbm, 238, rfl⟩
abbrev main_v183 : Ref sig .tc := ⟨.hbm, 239, rfl⟩
abbrev main_c_45 : Ref sig .tc := ⟨.hbm, 240, rfl⟩
abbrev main_v184 : Ref sig .tc := ⟨.hbm, 241, rfl⟩
abbrev main_v185 : Ref sig .tc := ⟨.hbm, 242, rfl⟩
abbrev main_c_46 : Ref sig .tc := ⟨.hbm, 243, rfl⟩
abbrev main_v186 : Ref sig .tc := ⟨.hbm, 244, rfl⟩
abbrev main_v187 : Ref sig .tc := ⟨.hbm, 245, rfl⟩
abbrev main_c_47 : Ref sig .tc := ⟨.hbm, 246, rfl⟩
abbrev main_v188 : Ref sig .tc := ⟨.hbm, 247, rfl⟩
abbrev main_v189 : Ref sig .tc := ⟨.hbm, 248, rfl⟩
abbrev main_c_48 : Ref sig .tc := ⟨.hbm, 249, rfl⟩
abbrev main_v190 : Ref sig .tc := ⟨.hbm, 250, rfl⟩
abbrev main_v191 : Ref sig .tc := ⟨.hbm, 251, rfl⟩
abbrev main_c_49 : Ref sig .tc := ⟨.hbm, 252, rfl⟩
abbrev main_v192 : Ref sig .tc := ⟨.hbm, 253, rfl⟩
abbrev main_v193 : Ref sig .tc := ⟨.hbm, 254, rfl⟩
abbrev main_c_50 : Ref sig .tc := ⟨.hbm, 255, rfl⟩
abbrev main_v194 : Ref sig .tc := ⟨.hbm, 256, rfl⟩
abbrev main_v195 : Ref sig .tc := ⟨.hbm, 257, rfl⟩
abbrev main_c_51 : Ref sig .tc := ⟨.hbm, 258, rfl⟩
abbrev main_v196 : Ref sig .tc := ⟨.hbm, 259, rfl⟩
abbrev main_v197 : Ref sig .tc := ⟨.hbm, 260, rfl⟩
abbrev main_c_52 : Ref sig .tc := ⟨.hbm, 261, rfl⟩
abbrev main_v198 : Ref sig .tc := ⟨.hbm, 262, rfl⟩
abbrev main_v199 : Ref sig .tc := ⟨.hbm, 263, rfl⟩
abbrev main_cst_53 : Ref sig .tc := ⟨.hbm, 264, rfl⟩
abbrev main_cst_54 : Ref sig .tc := ⟨.hbm, 265, rfl⟩
abbrev main_call3_v0 : Ref sig .tc := ⟨.hbm, 266, rfl⟩
abbrev main_call3_v1 : Ref sig .tc := ⟨.hbm, 267, rfl⟩
abbrev main_v200 : Ref sig .tc := ⟨.hbm, 268, rfl⟩
abbrev main_cst_55 : Ref sig .tc := ⟨.hbm, 269, rfl⟩
abbrev main_cst_56 : Ref sig .tc := ⟨.hbm, 270, rfl⟩
abbrev main_call4_v0 : Ref sig .tc := ⟨.hbm, 271, rfl⟩
abbrev main_call4_v1 : Ref sig .tc := ⟨.hbm, 272, rfl⟩
abbrev main_v201 : Ref sig .tc := ⟨.hbm, 273, rfl⟩
abbrev main_v202 : Ref sig .tc := ⟨.hbm, 274, rfl⟩
abbrev main_cst_57 : Ref sig .tc := ⟨.hbm, 275, rfl⟩
abbrev main_cst_58 : Ref sig .tc := ⟨.hbm, 276, rfl⟩
abbrev main_call6_v0 : Ref sig .tc := ⟨.hbm, 277, rfl⟩
abbrev main_call6_v1 : Ref sig .tc := ⟨.hbm, 278, rfl⟩
abbrev main_v203 : Ref sig .tc := ⟨.hbm, 279, rfl⟩
abbrev main_cst_59 : Ref sig .tc := ⟨.hbm, 280, rfl⟩
abbrev main_cst_60 : Ref sig .tc := ⟨.hbm, 281, rfl⟩
abbrev main_call7_v0 : Ref sig .tc := ⟨.hbm, 282, rfl⟩
abbrev main_call7_v1 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_cst_61 : Ref sig .tc := ⟨.hbm, 287, rfl⟩
abbrev main_cst_62 : Ref sig .tc := ⟨.hbm, 288, rfl⟩
abbrev main_call10_v0 : Ref sig .tc := ⟨.hbm, 289, rfl⟩
abbrev main_call10_v1 : Ref sig .tc := ⟨.hbm, 290, rfl⟩
abbrev main_v207 : Ref sig .tc := ⟨.hbm, 291, rfl⟩
abbrev main_cst_63 : Ref sig .tc := ⟨.hbm, 292, rfl⟩
abbrev main_cst_64 : Ref sig .tc := ⟨.hbm, 293, rfl⟩
abbrev main_call11_v0 : Ref sig .tc := ⟨.hbm, 294, rfl⟩
abbrev main_call11_v1 : Ref sig .tc := ⟨.hbm, 295, rfl⟩
abbrev main_v208 : Ref sig .tc := ⟨.hbm, 296, rfl⟩
abbrev main_v209 : Ref sig .tc := ⟨.hbm, 297, rfl⟩
abbrev main_cst_65 : Ref sig .tc := ⟨.hbm, 298, rfl⟩
abbrev main_cst_66 : Ref sig .tc := ⟨.hbm, 299, rfl⟩
abbrev main_call13_v0 : Ref sig .tc := ⟨.hbm, 300, rfl⟩
abbrev main_call13_v1 : Ref sig .tc := ⟨.hbm, 301, rfl⟩
abbrev main_v210 : Ref sig .tc := ⟨.hbm, 302, rfl⟩
abbrev main_cst_67 : Ref sig .tc := ⟨.hbm, 303, rfl⟩
abbrev main_cst_68 : Ref sig .tc := ⟨.hbm, 304, rfl⟩
abbrev main_call14_v0 : Ref sig .tc := ⟨.hbm, 305, rfl⟩
abbrev main_call14_v1 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_c_69 : Ref sig .tc := ⟨.hbm, 317, rfl⟩
abbrev main_v221 : Ref sig .tc := ⟨.hbm, 318, rfl⟩
abbrev main_v222 : Ref sig .tc := ⟨.hbm, 319, rfl⟩
abbrev main_c_70 : Ref sig .tc := ⟨.hbm, 320, rfl⟩
abbrev main_v223 : Ref sig .tc := ⟨.hbm, 321, rfl⟩
abbrev main_v224 : Ref sig .tc := ⟨.hbm, 322, rfl⟩
abbrev main_c_71 : Ref sig .tc := ⟨.hbm, 323, rfl⟩
abbrev main_v225 : Ref sig .tc := ⟨.hbm, 324, rfl⟩
abbrev main_v226 : Ref sig .tc := ⟨.hbm, 325, rfl⟩
abbrev main_c_72 : Ref sig .tc := ⟨.hbm, 326, rfl⟩
abbrev main_v227 : Ref sig .tc := ⟨.hbm, 327, rfl⟩
abbrev main_v228 : Ref sig .tc := ⟨.hbm, 328, rfl⟩
abbrev main_c_73 : Ref sig .tc := ⟨.hbm, 329, rfl⟩
abbrev main_v229 : Ref sig .tc := ⟨.hbm, 330, rfl⟩
abbrev main_v230 : Ref sig .tc := ⟨.hbm, 331, rfl⟩
abbrev main_c_74 : Ref sig .tc := ⟨.hbm, 332, rfl⟩
abbrev main_v231 : Ref sig .tc := ⟨.hbm, 333, rfl⟩
abbrev main_v232 : Ref sig .tc := ⟨.hbm, 334, rfl⟩
abbrev main_c_75 : Ref sig .tc := ⟨.hbm, 335, rfl⟩
abbrev main_v233 : Ref sig .tc := ⟨.hbm, 336, rfl⟩
abbrev main_v234 : Ref sig .tc := ⟨.hbm, 337, rfl⟩
abbrev main_c_76 : Ref sig .tc := ⟨.hbm, 338, rfl⟩
abbrev main_v235 : Ref sig .tc := ⟨.hbm, 339, rfl⟩
abbrev main_v236 : Ref sig .tc := ⟨.hbm, 340, rfl⟩
abbrev main_c_77 : Ref sig .tc := ⟨.hbm, 341, rfl⟩
abbrev main_v237 : Ref sig .tc := ⟨.hbm, 342, rfl⟩
abbrev main_v238 : Ref sig .tc := ⟨.hbm, 343, rfl⟩
abbrev main_c_78 : Ref sig .tc := ⟨.hbm, 344, rfl⟩
abbrev main_v239 : Ref sig .tc := ⟨.hbm, 345, rfl⟩
abbrev main_v240 : Ref sig .tc := ⟨.hbm, 346, rfl⟩
abbrev main_c_79 : Ref sig .tc := ⟨.hbm, 347, rfl⟩
abbrev main_v241 : Ref sig .tc := ⟨.hbm, 348, rfl⟩
abbrev main_v242 : Ref sig .tc := ⟨.hbm, 349, rfl⟩
abbrev main_c_80 : Ref sig .tc := ⟨.hbm, 350, rfl⟩
abbrev main_v243 : Ref sig .tc := ⟨.hbm, 351, rfl⟩
abbrev main_v244 : Ref sig .tc := ⟨.hbm, 352, rfl⟩
abbrev main_cst_81 : Ref sig .tc := ⟨.hbm, 353, rfl⟩
abbrev main_cst_82 : Ref sig .tc := ⟨.hbm, 354, rfl⟩
abbrev main_call18_v0 : Ref sig .tc := ⟨.hbm, 355, rfl⟩
abbrev main_call18_v1 : Ref sig .tc := ⟨.hbm, 356, rfl⟩
abbrev main_v245 : Ref sig .tc := ⟨.hbm, 357, rfl⟩
abbrev main_cst_83 : Ref sig .tc := ⟨.hbm, 358, rfl⟩
abbrev main_cst_84 : Ref sig .tc := ⟨.hbm, 359, rfl⟩
abbrev main_call19_v0 : Ref sig .tc := ⟨.hbm, 360, rfl⟩
abbrev main_call19_v1 : Ref sig .tc := ⟨.hbm, 361, rfl⟩
abbrev main_v246 : Ref sig .tc := ⟨.hbm, 362, rfl⟩
abbrev main_v247 : Ref sig .tc := ⟨.hbm, 363, rfl⟩
abbrev main_cst_85 : Ref sig .tc := ⟨.hbm, 364, rfl⟩
abbrev main_cst_86 : Ref sig .tc := ⟨.hbm, 365, rfl⟩
abbrev main_call21_v0 : Ref sig .tc := ⟨.hbm, 366, rfl⟩
abbrev main_call21_v1 : Ref sig .tc := ⟨.hbm, 367, rfl⟩
abbrev main_v248 : Ref sig .tc := ⟨.hbm, 368, rfl⟩
abbrev main_cst_87 : Ref sig .tc := ⟨.hbm, 369, rfl⟩
abbrev main_cst_88 : Ref sig .tc := ⟨.hbm, 370, rfl⟩
abbrev main_call22_v0 : Ref sig .tc := ⟨.hbm, 371, rfl⟩
abbrev main_call22_v1 : Ref sig .tc := ⟨.hbm, 372, rfl⟩
abbrev main_v249 : Ref sig .tc := ⟨.hbm, 373, rfl⟩
abbrev main_v250 : Ref sig .tc := ⟨.hbm, 374, rfl⟩
abbrev main_v251 : Ref sig .tc := ⟨.hbm, 375, rfl⟩
abbrev main_cst_89 : Ref sig .tc := ⟨.hbm, 376, rfl⟩
abbrev main_cst_90 : Ref sig .tc := ⟨.hbm, 377, rfl⟩
abbrev main_call25_v0 : Ref sig .tc := ⟨.hbm, 378, rfl⟩
abbrev main_call25_v1 : Ref sig .tc := ⟨.hbm, 379, rfl⟩
abbrev main_v252 : Ref sig .tc := ⟨.hbm, 380, rfl⟩
abbrev main_cst_91 : Ref sig .tc := ⟨.hbm, 381, rfl⟩
abbrev main_cst_92 : Ref sig .tc := ⟨.hbm, 382, rfl⟩
abbrev main_call26_v0 : Ref sig .tc := ⟨.hbm, 383, rfl⟩
abbrev main_call26_v1 : Ref sig .tc := ⟨.hbm, 384, rfl⟩
abbrev main_v253 : Ref sig .tc := ⟨.hbm, 385, rfl⟩
abbrev main_v254 : Ref sig .tc := ⟨.hbm, 386, rfl⟩
abbrev main_cst_93 : Ref sig .tc := ⟨.hbm, 387, rfl⟩
abbrev main_cst_94 : Ref sig .tc := ⟨.hbm, 388, rfl⟩
abbrev main_call28_v0 : Ref sig .tc := ⟨.hbm, 389, rfl⟩
abbrev main_call28_v1 : Ref sig .tc := ⟨.hbm, 390, rfl⟩
abbrev main_v255 : Ref sig .tc := ⟨.hbm, 391, rfl⟩
abbrev main_cst_95 : Ref sig .tc := ⟨.hbm, 392, rfl⟩
abbrev main_cst_96 : Ref sig .tc := ⟨.hbm, 393, rfl⟩
abbrev main_call29_v0 : Ref sig .tc := ⟨.hbm, 394, rfl⟩
abbrev main_call29_v1 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_v271 : Ref sig .tc := ⟨.hbm, 411, rfl⟩
abbrev main_v272 : Ref sig .tc := ⟨.hbm, 412, rfl⟩
abbrev main_v273 : Ref sig .tc := ⟨.hbm, 413, rfl⟩
abbrev main_cst_97 : Ref sig .tc := ⟨.hbm, 414, rfl⟩
abbrev main_v274 : Ref sig .tc := ⟨.hbm, 415, rfl⟩
abbrev main_v275 : Ref sig .tc := ⟨.hbm, 416, rfl⟩
abbrev main_cst_98 : Ref sig .tc := ⟨.hbm, 417, rfl⟩
abbrev main_v276 : Ref sig .tc := ⟨.hbm, 418, rfl⟩
abbrev main_v277 : Ref sig .tc := ⟨.hbm, 419, rfl⟩

abbrev nD : Nat := 1
abbrev τ : Topo := Topo.v7x

variable {F : FTy → Type} [FloatOps F]
-- ==== Proof.Frame.Rest.lean ====
module

public import proofs.«01_k».proof.Proof.Gen.KernelIdeal.Launch
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- The core's scoped buffers that are no staging buffer of custom_call 0, each whole at some contents:
    `cc0_scratch0`, `cc0_scratch1`, `cc1_stg0_0`, `cc1_stg0_1`, `cc1_stg1_0`, `cc1_stg1_1`, `cc1_stg2_0`, `cc1_stg2_1`, `cc1_stg3_0`, `cc1_stg3_1`, `cc1_stg4_0`, `cc1_stg4_1`, `cc1_stg5_0`, `cc1_stg5_1`, `cc1_stg6_0`, `cc1_stg6_1`, `cc1_stg7_0`, `cc1_stg7_1`, `cc1_stg8_0`, `cc1_stg8_1`, `cc1_scratch0`, `cc2_stg0_0`, `cc2_stg0_1`, `cc2_stg1_0`, `cc2_stg1_1`, `cc2_stg2_0`, `cc2_stg2_1`, `cc2_stg3_0`, `cc2_stg3_1`, `cc2_stg4_0`, `cc2_stg4_1`, `cc2_stg5_0`, `cc2_stg5_1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_stg8_0), ((c : Thread nD τ).loc cc1_stg8_0) ↦{fullShare} f) ∗ (∃ f : Buf Val ((c : Thread nD τ).loc cc1_stg8_1), ((c : Thread nD τ).loc cc1_stg8_1) ↦{fullShare} f) ∗ (∃ f : Buf Val ((c : Thread nD τ).loc cc1_scratch0), ((c : Thread nD τ).loc cc1_scratch0) ↦{fullShare} f) ∗ (∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f)) :=
  Pipeline.scopedRest_eq_of_list spec0 c [cc0_scratch0, cc0_scratch1, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_stg8_0, cc1_stg8_1, cc1_scratch0, cc2_stg0_0, cc2_stg0_1, cc2_stg1_0, cc2_stg1_1, cc2_stg2_0, cc2_stg2_1, cc2_stg3_0, cc2_stg3_1, cc2_stg4_0, cc2_stg4_1, cc2_stg5_0, cc2_stg5_1] (by decide) (by decide)

/-- The core's scoped buffers that are no staging buffer of custom_call 1, each whole at some contents:
    `cc0_stg0_0`, `cc0_stg0_1`, `cc0_stg1_0`, `cc0_stg1_1`, `cc0_stg2_0`, `cc0_stg2_1`, `cc0_stg3_0`, `cc0_stg3_1`, `cc0_stg4_0`, `cc0_stg4_1`, `cc0_stg5_0`, `cc0_stg5_1`, `cc0_stg6_0`, `cc0_stg6_1`, `cc0_stg7_0`, `cc0_stg7_1`, `cc0_stg8_0`, `cc0_stg8_1`, `cc0_scratch0`, `cc0_scratch1`, `cc1_scratch0`, `cc2_stg0_0`, `cc2_stg0_1`, `cc2_stg1_0`, `cc2_stg1_1`, `cc2_stg2_0`, `cc2_stg2_1`, `cc2_stg3_0`, `cc2_stg3_1`, `cc2_stg4_0`, `cc2_stg4_1`, `cc2_stg5_0`, `cc2_stg5_1`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_stg6_0), ((c : Thread nD τ).loc cc0_stg6_0) ↦{fullShare} f) ∗ (∃ f : Buf Val ((c : Thread nD τ).loc cc0_stg6_1), ((c : Thread nD τ).loc cc0_stg6_1) ↦{fullShare} f) ∗ (∃ f : Buf Val ((c : Thread nD τ).loc cc0_stg7_0), ((c : Thread nD τ).loc cc0_stg7_0) ↦{fullShare} f) ∗ (∃ f : Buf Val ((c : Thread nD τ).loc cc0_stg7_1), ((c : Thread nD τ).loc cc0_stg7_1) ↦{fullShare} f) ∗ (∃ f : Buf Val ((c : Thread nD τ).loc cc0_stg8_0), ((c : Thread nD τ).loc cc0_stg8_0) ↦{fullShare} f) ∗ (∃ f : Buf Val ((c : Thread nD τ).loc cc0_stg8_1), ((c : Thread nD τ).loc cc0_stg8_1) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc1_scratch0), ((c : Thread nD τ).loc cc1_scratch0) ↦{fullShare} f) ∗ (∃ f : Buf Val ((c : Thread nD τ).loc cc2_stg0_0), ((c : Thread nD τ).loc cc2_stg0_0) ↦{fullShare} f) ∗ (∃ f : Buf Val ((c : Thread nD τ).loc cc2_stg0_1), ((c : Thread nD τ).loc cc2_stg0_1) ↦{fullShare} f) ∗ (∃ f : Buf Val ((c : Thread nD τ).loc cc2_stg1_0), ((c : Thread nD τ).loc cc2_stg1_0) ↦{fullShare} f) ∗ (∃ f : Buf Val ((c : Thread nD τ).loc cc2_stg1_1), ((c : Thread nD τ).loc cc2_stg1_1) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg3_1), ((c : Thread nD τ).loc cc2_stg3_1) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f)) :=
  Pipeline.scopedRest_eq_of_list spec1 c [cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_stg8_0, cc0_stg8_1, cc0_scratch0, cc0_scratch1, cc1_scratch0, cc2_stg0_0, cc2_stg0_1, cc2_stg1_0, cc2_stg1_1, cc2_stg2_0, cc2_stg2_1, cc2_stg3_0, cc2_stg3_1, cc2_stg4_0, cc2_stg4_1, cc2_stg5_0, cc2_stg5_1] (by decide) (by decide)

/-- The core's scoped buffers that are no staging buffer of custom_call 2, each whole at some contents:
    `cc0_stg0_0`, `cc0_stg0_1`, `cc0_stg1_0`, `cc0_stg1_1`, `cc0_stg2_0`, `cc0_stg2_1`, `cc0_stg3_0`, `cc0_stg3_1`, `cc0_stg4_0`, `cc0_stg4_1`, `cc0_stg5_0`, `cc0_stg5_1`, `cc0_stg6_0`, `cc0_stg6_1`, `cc0_stg7_0`, `cc0_stg7_1`, `cc0_stg8_0`, `cc0_stg8_1`, `cc0_scratch0`, `cc0_scratch1`, `cc1_stg0_0`, `cc1_stg0_1`, `cc1_stg1_0`, `cc1_stg1_1`, `cc1_stg2_0`, `cc1_stg2_1`, `cc1_stg3_0`, `cc1_stg3_1`, `cc1_stg4_0`, `cc1_stg4_1`, `cc1_stg5_0`, `cc1_stg5_1`, `cc1_stg6_0`, `cc1_stg6_1`, `cc1_stg7_0`, `cc1_stg7_1`, `cc1_stg8_0`, `cc1_stg8_1`, `cc1_scratch0`. -/
theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_stg6_0), ((c : Thread nD τ).loc cc0_stg6_0) ↦{fullShare} f) ∗ (∃ f : Buf Val ((c : Thread nD τ).loc cc0_stg6_1), ((c : Thread nD τ).loc cc0_stg6_1) ↦{fullShare} f) ∗ (∃ f : Buf Val ((c : Thread nD τ).loc cc0_stg7_0), ((c : Thread nD τ).loc cc0_stg7_0) ↦{fullShare} f) ∗ (∃ f : Buf Val ((c : Thread nD τ).loc cc0_stg7_1), ((c : Thread nD τ).loc cc0_stg7_1) ↦{fullShare} f) ∗ (∃ f : Buf Val ((c : Thread nD τ).loc cc0_stg8_0), ((c : Thread nD τ).loc cc0_stg8_0) ↦{fullShare} f) ∗ (∃ f : Buf Val ((c : Thread nD τ).loc cc0_stg8_1), ((c : Thread nD τ).loc cc0_stg8_1) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_stg8_0), ((c : Thread nD τ).loc cc1_stg8_0) ↦{fullShare} f) ∗ (∃ f : Buf Val ((c : Thread nD τ).loc cc1_stg8_1), ((c : Thread nD τ).loc cc1_stg8_1) ↦{fullShare} f) ∗ (∃ f : Buf Val ((c : Thread nD τ).loc cc1_scratch0), ((c : Thread nD τ).loc cc1_scratch0) ↦{fullShare} f)) :=
  Pipeline.scopedRest_eq_of_list spec2 c [cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_stg8_0, cc0_stg8_1, cc0_scratch0, cc0_scratch1, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_stg8_0, cc1_stg8_1, cc1_scratch0] (by decide) (by decide)

end Cert.KernelIdeal.Gen

end
-- ==== Proof.Frame.Region0.lean ====
module

public import proofs.«01_k».proof.Proof.Gen.KernelIdeal.Launch
public import proofs.«01_k».proof.Proof.Frame.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_loftq_quant` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 36) — by arithmetic of the point. -/
theorem hcond0_0 : ∀ t : Fin cfg0.N, cond0_0 (grid0.coords t) ↔ t.val % 36 = 0 :=
  (fun t => by
    have ht : t.val < 72 := Nat.lt_of_lt_of_eq t.isLt N_0
    have e0 : (grid0.coords t 0).val = t.val / 36 % 2 := Pipeline.Grid.coords_val t 0 (by decide) rfl
    have e1 : (grid0.coords t 1).val = t.val / 1 % 36 := Pipeline.Grid.coords_val t 1 (by decide) rfl
    simp only [cond0_0, e0, e1]
    word_cmp
   : ∀ t : Fin grid0.N, cond0_0 (grid0.coords t) ↔ t.val % 36 = 0)

/-! ## The kernel body on any staging memrefs: a subtype the run finds -/

/-- One staging buffer of output window 3, through which its contents are stated (`View.read_writes_of_cover`: the
    choice does not matter). -/
abbrev VO0_3 : View sig .tc .vmem S1x512x512 .f32 := (Memref.whole cc0_stg3_0 : Memref sig .tc .vmem S1x512x512 .f32).view
/-- One staging buffer of output window 4, through which its contents are stated (`View.read_writes_of_cover`: the
    choice does not matter). -/
abbrev VO0_4 : View sig .tc .vmem S1x512x512 .i8 := (Memref.whole cc0_stg4_0 : Memref sig .tc .vmem S1x512x512 .i8).view
/-- One staging buffer of output window 5, through which its contents are stated (`View.read_writes_of_cover`: the
    choice does not matter). -/
abbrev VO0_5 : View sig .tc .vmem S1x512x256 .i8 := (Memref.whole cc0_stg5_0 : Memref sig .tc .vmem S1x512x256 .i8).view
/-- One staging buffer of output window 6, through which its contents are stated (`View.read_writes_of_cover`: the
    choice does not matter). -/
abbrev VO0_6 : View sig .tc .vmem S1x8x512 .f32 := (Memref.whole cc0_stg6_0 : Memref sig .tc .vmem S1x8x512 .f32).view
/-- One staging buffer of output window 7, through which its contents are stated (`View.read_writes_of_cover`: the
    choice does not matter). -/
abbrev VO0_7 : View sig .tc .vmem S1x3x640x512 .bf16 := (Memref.whole cc0_stg7_0 : Memref sig .tc .vmem S1x3x640x512 .bf16).view
/-- One staging buffer of output window 8, through which its contents are stated (`View.read_writes_of_cover`: the
    choice does not matter). -/
abbrev VO0_8 : View sig .tc .vmem S1x2x640x640 .f32 := (Memref.whole cc0_stg8_0 : Memref sig .tc .vmem S1x2x640x640 .f32).view
/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x640 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x256 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3x640x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2x640x640 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S3840x512 .bf16 := Memref.whole cc0_scratch0
abbrev scM0_1 : Memref sig .tc .vmem S512x3840 .bf16 := Memref.whole cc0_scratch1
/-- The scratch `arg11` the kernel carries between points, as a view: what it holds is stated through it. -/
abbrev VS0_0 : View sig .tc .vmem S3840x512 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 36), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) :
    Σ' (L3 : List (View.Piece (Elt F) S1x512x512 .f32)), Σ' (L4 : List (View.Piece (Elt F) S1x512x512 .i8)), Σ' (L5 : List (View.Piece (Elt F) S1x512x256 .i8)), Σ' (L6 : List (View.Piece (Elt F) S1x8x512 .f32)), Σ' (L7 : List (View.Piece (Elt F) S1x3x640x512 .bf16)), Σ' (L8 : List (View.Piece (Elt F) S1x2x640x640 .f32)), Σ' (LS0 : List (View.Piece (Elt F) S3840x512 .bf16)), { LT1 : List (View.Piece (Elt F) S512x3840 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1)) -∗ K ⟨⟩))
          ⊢ wp frame (wpE (defs₀ (F := F)) Variants.none c none) E (cc0_loftq_quant i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc0_loftq_quant_eq_skeleton]; unfold cc0_loftq_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]; · iexists _; iexact HS0
    iexists _; iexact HS1

/-- Case A's pieces for output 3 tile its block (1 store of `S1x512x512`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).1 S1x512x512.size (by sl_kernel_rfl) y

/-- What case A leaves in output 3's staging buffer: its pieces read back over junk. -/
def out0_A_3 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x512x512 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 hc0 x0 x1 x2).1)

/-- Case A's pieces for output 4 tile its block (8 stores of `S1x64x512`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x512x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).2.1 S1x64x512.size (by sl_kernel_rfl) y

/-- What case A leaves in output 4's staging buffer: its pieces read back over junk. -/
def out0_A_4 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x512x512 .i8 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 hc0 x0 x1 x2).2.1)

/-- Case A's pieces for output 5 tile its block (1 store of `S1x512x256`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x512x256.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).2.2.1 S1x512x256.size (by sl_kernel_rfl) y

/-- What case A leaves in output 5's staging buffer: its pieces read back over junk. -/
def out0_A_5 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x512x256 .i8 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 hc0 x0 x1 x2).2.2.1)

/-- Case A's pieces for output 6 tile its block (1 store of `S1x8x512`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x8x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).2.2.2.1 S1x8x512.size (by sl_kernel_rfl) y

/-- What case A leaves in output 6's staging buffer: its pieces read back over junk. -/
def out0_A_6 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x8x512 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 hc0 x0 x1 x2).2.2.2.1)

/-- Case A's pieces for output 7 tile its block (3 stores of `S1x1x640x512`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x3x640x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).2.2.2.2.1 S1x1x640x512.size (by sl_kernel_rfl) y

/-- What case A leaves in output 7's staging buffer: its pieces read back over junk. -/
def out0_A_7 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x3x640x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2).2.2.2.2.1)

/-- Case A's pieces for output 8 are of SEVERAL sizes (3 stores of `S1x1x640x640`, `S1x2x640x640`): cut into blocks of `![1, 1, 640, 640]` they tile its block (checked by the kernel's evaluation: Lib/Ring.lean `Piece.tiledBy`), so they cover it. -/
theorem cover0_A_8 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S1x2x640x640.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.2.2.2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 hc0 x0 x1 x2).2.2.2.2.2.1 ![1, 1, 640, 640] (by sl_kernel_rfl) y

/-- What case A leaves in output 8's staging buffer: its pieces read back over junk. -/
def out0_A_8 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S1x2x640x640 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2).2.2.2.2.2.1)

/-- Case A's pieces for scratch `arg11`, which the kernel carries between points, cover it: 1 piece of `S3840x512` tiling it (Lib/Ring.lean `Piece.tiledL`). -/
theorem scover0_A_0 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) (y : S3840x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2).2.2.2.2.2.2.1 S3840x512.size (by sl_kernel_rfl) y

/-- What case A leaves in scratch `arg11`: its pieces read back over junk. -/
def sout0_A_0 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : cond0_0 i)
    (x0 : Vec F S1x512x512 .bf16) (x1 : Vec F S1x512x640 .f32) (x2 : Vec F S1x512x640 .f32) : Vec F S3840x512 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2).2.2.2.2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 71: 70 of 72), WITH the
    proof that on whole staging memrefs — the inputs' at their contents, the outputs it reads before covering (8) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) :
    Σ' (L3 : List (View.Piece (Elt F) S1x512x512 .f32)), Σ' (L4 : List (View.Piece (Elt F) S1x512x512 .i8)), Σ' (L5 : List (View.Piece (Elt F) S1x512x256 .i8)), Σ' (L6 : List (View.Piece (Elt F) S1x8x512 .f32)), Σ' (L7 : List (View.Piece (Elt F) S1x3x640x512 .bf16)), Σ' (L8 : List (View.Piece (Elt F) S1x2x640x640 .f32)), Σ' (LS0 : List (View.Piece (Elt F) S3840x512 .bf16)), { LT1 : List (View.Piece (Elt F) S512x3840 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8 ∗ owns (c : Thread nD τ) arg11 fullShare xs0 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xs0 ∗ (∃ f, arg12.view.loc (c : Thread nD τ) ↦[arg12.view.set]{fullShare} arg12.view.writes (Elt F) f LT1)) -∗ K ⟨⟩))
          ⊢ wp frame (wpE (defs₀ (F := F)) Variants.none c none) E (cc0_loftq_quant i arg2 harg2 arg3 harg3 arg4 harg4 arg5 harg5 arg6 harg6 arg7 harg7 arg8 harg8 arg9 harg9 arg10 harg10 arg11 harg11 arg12 harg12) K } := by
  refine ⟨?_, ?_, ?_, ?_, ?_, ?_, [], ?_, fun E K => ?run⟩
  case run =>
    simp only [cc0_loftq_quant_eq_skeleton]; unfold cc0_loftq_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%f8, %hf8, H8⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg11.read_unread _
      iexact HS0
    iexists _; iexact HS1

/-- Case B's pieces for output 3 tile its block (1 store of `S1x512x512`, checked by the kernel's evaluation: Lib/Ring.lean `Piece.tiledL`, linear in the pieces, through a loop's `@[irreducible]` trip theorem too), so they cover it. -/
theorem cover0_B_3 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).1 S1x512x512.size (by sl_kernel_rfl) y

/-- What case B leaves in output 3's staging buffer: its pieces read back over junk. -/
def out0_B_3 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x512x512 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 hc0 x0 x1 x2 xo8 xs0).1)

/-- Case B's pieces for output 4 tile its block (8 stores of `S1x64x512`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x512x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).2.1 S1x64x512.size (by sl_kernel_rfl) y

/-- What case B leaves in output 4's staging buffer: its pieces read back over junk. -/
def out0_B_4 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x512x512 .i8 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 hc0 x0 x1 x2 xo8 xs0).2.1)

/-- Case B's pieces for output 5 tile its block (1 store of `S1x512x256`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x512x256.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).2.2.1 S1x512x256.size (by sl_kernel_rfl) y

/-- What case B leaves in output 5's staging buffer: its pieces read back over junk. -/
def out0_B_5 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x512x256 .i8 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 hc0 x0 x1 x2 xo8 xs0).2.2.1)

/-- Case B's pieces for output 6 tile its block (1 store of `S1x8x512`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x8x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.1 S1x8x512.size (by sl_kernel_rfl) y

/-- What case B leaves in output 6's staging buffer: its pieces read back over junk. -/
def out0_B_6 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x8x512 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.1)

/-- Case B's pieces for output 7 tile its block (3 stores of `S1x1x640x512`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x3x640x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.1 S1x1x640x512.size (by sl_kernel_rfl) y

/-- What case B leaves in output 7's staging buffer: its pieces read back over junk. -/
def out0_B_7 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x3x640x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.1)

/-- Case B's pieces for output 8 tile its block (2 stores of `S1x1x640x640`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) (y : S1x2x640x640.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.2.1 S1x1x640x640.size (by sl_kernel_rfl) y

/-- What case B leaves in output 8's staging buffer: its pieces read back over junk. -/
def out0_B_8 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S1x2x640x640 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 xo8 xs0).2.2.2.2.2.1)

/-- Case B stores nothing into scratch `arg11`: it holds what the point before left. -/
def sout0_B_0 (c : Dev nD) (i : grid0.Coords) (arg2 : Memref sig .tc .vmem S1x512x512 .bf16) (harg2 : arg2.IsWhole) (arg3 : Memref sig .tc .vmem S1x512x640 .f32) (harg3 : arg3.IsWhole) (arg4 : Memref sig .tc .vmem S1x512x640 .f32) (harg4 : arg4.IsWhole) (arg5 : Memref sig .tc .vmem S1x512x512 .f32) (harg5 : arg5.IsWhole) (arg6 : Memref sig .tc .vmem S1x512x512 .i8) (harg6 : arg6.IsWhole) (arg7 : Memref sig .tc .vmem S1x512x256 .i8) (harg7 : arg7.IsWhole) (arg8 : Memref sig .tc .vmem S1x8x512 .f32) (harg8 : arg8.IsWhole) (arg9 : Memref sig .tc .vmem S1x3x640x512 .bf16) (harg9 : arg9.IsWhole) (arg10 : Memref sig .tc .vmem S1x2x640x640 .f32) (harg10 : arg10.IsWhole) (arg11 : Memref sig .tc .vmem S3840x512 .bf16) (harg11 : arg11.IsWhole) (arg12 : Memref sig .tc .vmem S512x3840 .bf16) (harg12 : arg12.IsWhole) (hc0 : ¬cond0_0 i)
    (x0 : Vec F S1x512x512 .bf16) (x1 : Vec F S1x512x640 .f32) (x2 : Vec F S1x512x640 .f32) (xo8 : Vec F S1x2x640x640 .f32) (xs0 : Vec F S3840x512 .bf16) : Vec F S3840x512 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x512 .f32 × Vec F S1x512x512 .i8 × Vec F S1x512x256 .i8 × Vec F S1x8x512 .f32 × Vec F S1x3x640x512 .bf16 × Vec F S1x2x640x640 .f32 × Vec F S3840x512 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 36 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 36 = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 36 = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2.2.2) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2.2.2.2.2) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.2.2.2) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
    | ⟨6, _⟩ => (outsAt0 V c t.val t.isLt).2.2.2.1
    | ⟨7, _⟩ => (outsAt0 V c t.val t.isLt).2.2.2.2.1
    | ⟨8, _⟩ => (outsAt0 V c t.val t.isLt).2.2.2.2.2.1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem after0_6 (c : Dev nD) (t : Fin cfg0.N) : (dat0 V c).after 6 t = (outsAt0 V c t.val t.isLt).2.2.2.1 := by dsimp only [dat0]
theorem after0_7 (c : Dev nD) (t : Fin cfg0.N) : (dat0 V c).after 7 t = (outsAt0 V c t.val t.isLt).2.2.2.2.1 := by dsimp only [dat0]
theorem after0_8 (c : Dev nD) (t : Fin cfg0.N) : (dat0 V c).after 8 t = (outsAt0 V c t.val t.isLt).2.2.2.2.2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 36 = 0) (d) :
    (dat0 V c).before 8 t d = (outsAt0 V c (t.val - 1) (Nat.lt_of_le_of_lt (Nat.sub_le _ _) t.isLt)).2.2.2.2.2.1 := by
  have hN : t.val < 72 := lt_of_lt_of_eq t.isLt (show cfg0.N = 72 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3, after0_4, after0_5, after0_6, after0_7, after0_8]
  rw [show (dat0 V c).Φ t.succ = PhiS0 V c (t.val + 1) t.isLt from rfl, PhiS0_succ]
  have hN : t.val < 72 := lt_of_lt_of_eq t.isLt (show cfg0.N = 72 from N_0)
  by_cases h0 : t.val % 36 = 0
  · by_cases hz : t.val = 0
    · rw [PhiS0_castSucc V c t, PhiS0_zero V c _ _ hz, PhiA0_eq]
      rw [outsAt0_A V c t h0]
      unfold out0_A_3 out0_A_4 out0_A_5 out0_A_6 out0_A_7 out0_A_8 sout0_A_0; (try dsimp only)
      iintro ⟨⟨⟨HS0, HS1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk0 V c 0 t) (iblk0 V c 1 t) (iblk0 V c 2 t)).2.2.2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, ⟨%e3, H3⟩, ⟨%e4, H4⟩, ⟨%e5, H5⟩, ⟨%e6, H6⟩, ⟨%e7, H7⟩, ⟨%e8, H8⟩, ⟨%es0, HS0⟩, ⟨%fT1, HS1⟩⟩
      isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
      · isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · iexists _; unfold owns; iexists _; isplitr
            swap; · iexact HS1
            ipureintro; rfl
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _)
    · rw [PhiS0_castSucc V c t, PhiS0_pos V c _ _ hz]
      rw [outsAt0_A V c t h0]
      unfold out0_A_3 out0_A_4 out0_A_5 out0_A_6 out0_A_7 out0_A_8 sout0_A_0; (try dsimp only)
      iintro ⟨⟨⟨HS0, HS1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk0 V c 0 t) (iblk0 V c 1 t) (iblk0 V c 2 t)).2.2.2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexists _; iexact HS0
      isplitl [HS1]; · iexact HS1
      iintro ⟨H0, H1, H2, ⟨%e3, H3⟩, ⟨%e4, H4⟩, ⟨%e5, H5⟩, ⟨%e6, H6⟩, ⟨%e7, H7⟩, ⟨%e8, H8⟩, ⟨%es0, HS0⟩, ⟨%fT1, HS1⟩⟩
      isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
      · isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          isplitl [HS1]
          · iexists _; unfold owns; iexists _; isplitr
            swap; · iexact HS1
            ipureintro; rfl
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _)
  · by_cases hz : t.val = 0
    · exfalso; have hN : t.val < 72 := lt_of_lt_of_eq t.isLt (show cfg0.N = 72 from N_0); omega
    · rw [PhiS0_castSucc V c t, PhiS0_pos V c _ _ hz]
      rw [outsAt0_B V c t h0]
      simp only [before0_8_B V c t h0]
      unfold out0_B_3 out0_B_4 out0_B_5 out0_B_6 out0_B_7 out0_B_8 sout0_B_0; (try dsimp only)
      iintro ⟨⟨⟨HS0, HS1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk0 V c 0 t) (iblk0 V c 1 t) (iblk0 V c 2 t) _ _).2.2.2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [H7]; · iexists _; iexact H7
      isplitl [H8]; · iexact H8
      isplitl [HS0]; · iexact HS0
      isplitl [HS1]; · iexact HS1
      iintro ⟨H0, H1, H2, ⟨%e3, H3⟩, ⟨%e4, H4⟩, ⟨%e5, H5⟩, ⟨%e6, H6⟩, ⟨%e7, H7⟩, ⟨%e8, H8⟩, HS0, ⟨%fT1, HS1⟩⟩
      isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
      · isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
        · isplitl [HS0]
          · iexact HS0
          isplitl [HS1]
          · iexists _; unfold owns; iexists _; isplitr
            swap; · iexact HS1
            ipureintro; rfl
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩
  isplitl [HS0 HS1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
  · isplitl [HS0]
    · iexists _; iexact HS0
    isplitl [HS1]
    · iexact HS1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    isplitl [HR28]
    · iexact HR28
    isplitl [HR29]
    · iexact HR29
    isplitl [HR30]
    · iexact HR30
    isplitl [HR31]
    · iexact HR31
    iexact HR32
  iexact Hg

/-- The same after the last point. -/
theorem hout0 (c : Dev nD) : (dat0 V c).Φ (Fin.last cfg0.N) ⊢ Pipeline.ΦA spec0 c :=
  Phi_out0 V c _ (by rw [Fin.val_last]; have : cfg0.N = 72 := N_0; omega)

end Regions

end Cert.KernelIdeal.Gen

end
-- ==== Proof.Frame.Region1.lean ====
module

public import proofs.«01_k».proof.Proof.Gen.KernelIdeal.Launch
public import proofs.«01_k».proof.Proof.Frame.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Pipeline.TableIdle
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_loftq_lstsq` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 36) — by arithmetic of the point. -/
theorem hcond1_0 : ∀ t : Fin cfg1.N, cond1_0 (grid1.coords t) ↔ t.val % 36 = 0 :=
  (fun t => by
    have ht : t.val < 72 := Nat.lt_of_lt_of_eq t.isLt N_1
    have e0 : (grid1.coords t 0).val = t.val / 36 % 2 := Pipeline.Grid.coords_val t 0 (by decide) rfl
    have e1 : (grid1.coords t 1).val = t.val / 1 % 36 := Pipeline.Grid.coords_val t 1 (by decide) rfl
    simp only [cond1_0, k1_cond1, e0, e1]
    word_cmp
   : ∀ t : Fin grid1.N, cond1_0 (grid1.coords t) ↔ t.val % 36 = 0)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Window 5 is never idle (an output stored at every point, under no condition). -/
theorem liveAt1_5 : ∀ t : Fin cfg1.N, cfg1.idle 5 (grid1.coords t) = false := fun _ => rfl
/-- Whether output 6's buffer is FRESH at each position `1 ‥ N` — holds nothing the body stored since the region's entry or the
    last write-back (written back at the point before, or idle there and fresh before it) —, as a bitmask the classifier
    computed, bit `n` for position `n + 1`; position 0 is fresh. `freshTab1_6_step` checks it against the configuration's own
    step point by point and Lib/Pipeline/TableIdle.lean `Cfg.fresh_tab` makes it `Cfg.fresh` (`fresh1_6_eq`). -/
def freshTab1_6 : ℕ → Bool
  | 0 => true
  | n + 1 => (0x800000000800000000 : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
/-- At the points of case B output 6's buffer is not fresh: it holds what its run's first point stored. -/
theorem notFresh1_6_B : ∀ t : Fin cfg1.N, ¬cond1_0 (grid1.coords t) → freshTab1_6 t.val = false := by decide +kernel
/-- At the points of case A the printed configuration (`Cfg.idle`) calls output 6 live: the case stores into it. -/
theorem liveAt1_6_A : ∀ t : Fin cfg1.N, cond1_0 (grid1.coords t) → cfg1.idle 6 (grid1.coords t) = false := by decide +kernel
/-- At the points of case B the printed configuration (`Cfg.idle`) calls output 6 idle: the case stores nothing into it. -/
theorem idleAt1_6_B : ∀ t : Fin cfg1.N, ¬cond1_0 (grid1.coords t) → cfg1.idle 6 (grid1.coords t) = true := by decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab1_7_step` checks it against the configuration's own
    step point by point and Lib/Pipeline/TableIdle.lean `Cfg.fresh_tab` makes it `Cfg.fresh` (`fresh1_7_eq`). -/
def freshTab1_7 : ℕ → Bool
  | 0 => true
  | n + 1 => (0x800000000800000000 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
/-- At the points of case B output 7's buffer is not fresh: it holds what its run's first point stored. -/
theorem notFresh1_7_B : ∀ t : Fin cfg1.N, ¬cond1_0 (grid1.coords t) → freshTab1_7 t.val = false := by decide +kernel
/-- At the points of case A the printed configuration (`Cfg.idle`) calls output 7 live: the case stores into it. -/
theorem liveAt1_7_A : ∀ t : Fin cfg1.N, cond1_0 (grid1.coords t) → cfg1.idle 7 (grid1.coords t) = false := by decide +kernel
/-- At the points of case B the printed configuration (`Cfg.idle`) calls output 7 idle: the case stores nothing into it. -/
theorem idleAt1_7_B : ∀ t : Fin cfg1.N, ¬cond1_0 (grid1.coords t) → cfg1.idle 7 (grid1.coords t) = true := by decide +kernel
/-- Whether output 8's buffer is FRESH at each position `1 ‥ N` — holds nothing the body stored since the region's entry or the
    last write-back (written back at the point before, or idle there and fresh before it) —, as a bitmask the classifier
    computed, bit `n` for position `n + 1`; position 0 is fresh. `freshTab1_8_step` checks it against the configuration's own
    step point by point and Lib/Pipeline/TableIdle.lean `Cfg.fresh_tab` makes it `Cfg.fresh` (`fresh1_8_eq`). -/
def freshTab1_8 : ℕ → Bool
  | 0 => true
  | n + 1 => (0x800000000800000000 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem fresh1_8_eq (t : Fin cfg1.N) : cfg1.fresh 8 t.val = freshTab1_8 t.val :=
  Pipeline.Cfg.fresh_tab cfg1 8 freshTab1_8 rfl freshTab1_8_step t.val (Nat.le_of_lt t.isLt)
/-- At the points of case B output 8's buffer is not fresh: it holds what its run's first point stored. -/
theorem notFresh1_8_B : ∀ t : Fin cfg1.N, ¬cond1_0 (grid1.coords t) → freshTab1_8 t.val = false := by decide +kernel
/-- At the points of case A the printed configuration (`Cfg.idle`) calls output 8 live: the case stores into it. -/
theorem liveAt1_8_A : ∀ t : Fin cfg1.N, cond1_0 (grid1.coords t) → cfg1.idle 8 (grid1.coords t) = false := by decide +kernel
/-- At the points of case B the printed configuration (`Cfg.idle`) calls output 8 idle: the case stores nothing into it. -/
theorem idleAt1_8_B : ∀ t : Fin cfg1.N, ¬cond1_0 (grid1.coords t) → cfg1.idle 8 (grid1.coords t) = true := by decide +kernel

/-! ## The kernel body on any staging memrefs: a subtype the run finds -/

/-- One staging buffer of output window 4, through which its contents are stated (`View.read_writes_of_cover`: the
    choice does not matter). -/
abbrev VO1_4 : View sig .tc .vmem S1x640x512 .f32 := (Memref.whole cc1_stg4_0 : Memref sig .tc .vmem S1x640x512 .f32).view
/-- One staging buffer of output window 5, through which its contents are stated (`View.read_writes_of_cover`: the
    choice does not matter). -/
abbrev VO1_5 : View sig .tc .vmem S1x1x512 .f32 := (Memref.whole cc1_stg5_0 : Memref sig .tc .vmem S1x1x512 .f32).view
/-- One staging buffer of output window 6, through which its contents are stated (`View.read_writes_of_cover`: the
    choice does not matter). -/
abbrev VO1_6 : View sig .tc .vmem S1x512x288 .i8 := (Memref.whole cc1_stg6_0 : Memref sig .tc .vmem S1x512x288 .i8).view
/-- One staging buffer of output window 7, through which its contents are stated (`View.read_writes_of_cover`: the
    choice does not matter). -/
abbrev VO1_7 : View sig .tc .vmem S1x1x512 .f32 := (Memref.whole cc1_stg7_0 : Memref sig .tc .vmem S1x1x512 .f32).view
/-- One staging buffer of output window 8, through which its contents are stated (`View.read_writes_of_cover`: the
    choice does not matter). -/
abbrev VO1_8 : View sig .tc .vmem S1x512x288 .f32 := (Memref.whole cc1_stg8_0 : Memref sig .tc .vmem S1x512x288 .f32).view
/-- Each window's current staging memref at point `t`, spelled as the pipeline passes it (`bodyAt1`), and its wholeness. -/
abbrev ms1_0 (t : Fin cfg1.N) : Memref sig .tc .vmem S1x512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x288x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3x640x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x640x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x288 .i8 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512x288 .f32 := win1_8.stage (cfg1.slots t 8)
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S288x512 .f32 := Memref.whole cc1_scratch0
/-- The scratch `arg11` the kernel carries between points, as a view: what it holds is stated through it. -/
abbrev VS1_0 : View sig .tc .vmem S288x512 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) :
    Σ' (L4 : List (View.Piece (Elt F) S1x640x512 .f32)), Σ' (L5 : List (View.Piece (Elt F) S1x1x512 .f32)), Σ' (L6 : List (View.Piece (Elt F) S1x512x288 .i8)), Σ' (L7 : List (View.Piece (Elt F) S1x1x512 .f32)), Σ' (L8 : List (View.Piece (Elt F) S1x512x288 .f32)), { LS0 : List (View.Piece (Elt F) S288x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_loftq_lstsq i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc1_loftq_lstsq_eq_skeleton]; unfold cc1_loftq_lstsq_skel
    simp only [k1_part2_eq_skeleton, k1_part1_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact HS0

/-- Case A's pieces for output 4 tile its block (2 stores of `S1x640x512`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S1x640x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).1 S1x640x512.size (by sl_kernel_rfl) y

/-- What case A leaves in output 4's staging buffer: its pieces read back over junk. -/
def out1_A_4 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S1x640x512 .f32 :=
  VO1_4.read (Elt F) (VO1_4.writes (Elt F) VO1_4.junk (kernelRun1_A c i arg2 harg2 arg3 harg3 arg4 harg4 arg5 harg5 arg6 harg6 arg7 harg7 arg8 harg8 arg9 harg9 arg10 harg10 arg11 harg11 hc0 x0 x1 x2 x3).1)

/-- Case A's pieces for output 5 tile its block (2 stores of `S1x1x512`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S1x1x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).2.1 S1x1x512.size (by sl_kernel_rfl) y

/-- What case A leaves in output 5's staging buffer: its pieces read back over junk. -/
def out1_A_5 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S1x1x512 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 arg11 harg11 hc0 x0 x1 x2 x3).2.1)

/-- Case A's pieces for output 6 tile its block (1 store of `S1x512x288`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S1x512x288.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).2.2.1 S1x512x288.size (by sl_kernel_rfl) y

/-- What case A leaves in output 6's staging buffer: its pieces read back over junk. -/
def out1_A_6 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S1x512x288 .i8 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3).2.2.1)

/-- Case A's pieces for output 7 tile its block (1 store of `S1x1x512`, checked by the kernel's evaluation: Lib/Ring.lean `Piece.tiledL`, linear in the pieces, through a loop's `@[irreducible]` trip theorem too), so they cover it. -/
theorem cover1_A_7 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S1x1x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).2.2.2.1 S1x1x512.size (by sl_kernel_rfl) y

/-- What case A leaves in output 7's staging buffer: its pieces read back over junk. -/
def out1_A_7 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S1x1x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3).2.2.2.1)

/-- Case A's pieces for output 8 tile its block (1 store of `S1x512x288`, checked by the kernel's evaluation: Lib/Ring.lean `Piece.tiledL`, linear in the pieces, through a loop's `@[irreducible]` trip theorem too), so they cover it. -/
theorem cover1_A_8 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S1x512x288.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).2.2.2.2.1 S1x512x288.size (by sl_kernel_rfl) y

/-- What case A leaves in output 8's staging buffer: its pieces read back over junk. -/
def out1_A_8 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S1x512x288 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3).2.2.2.2.1)

/-- Case A's pieces for scratch `arg11`, which the kernel carries between points, cover it: 1 piece of `S288x512` tiling it (Lib/Ring.lean `Piece.tiledL`). -/
theorem scover1_A_0 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) (y : S288x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3).2.2.2.2.2.1 S288x512.size (by sl_kernel_rfl) y

/-- What case A leaves in scratch `arg11`: its pieces read back over junk. -/
def sout1_A_0 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : cond1_0 i)
    (x0 : Vec F S1x512x512 .f32) (x1 : Vec F S1x512x512 .i8) (x2 : Vec F S1x288x512 .f32) (x3 : Vec F S1x3x640x512 .bf16) : Vec F S288x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3).2.2.2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 71: 70 of 72), WITH the
    proof that on whole staging memrefs — the inputs' at their contents, the outputs it reads before covering (4, 5) at their running contents `xo·`, the outputs it leaves idle (6, 7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) :
    Σ' (L4 : List (View.Piece (Elt F) S1x640x512 .f32)), Σ' (L5 : List (View.Piece (Elt F) S1x1x512 .f32)), Σ' (L6 : List (View.Piece (Elt F) S1x512x288 .i8)), Σ' (L7 : List (View.Piece (Elt F) S1x1x512 .f32)), Σ' (L8 : List (View.Piece (Elt F) S1x512x288 .f32)), { LS0 : List (View.Piece (Elt F) S288x512 .f32) //
      ∀ (xi6 : Vec F S1x512x288 .i8) (xi7 : Vec F S1x1x512 .f32) (xi8 : Vec F S1x512x288 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xo5 ∗ owns (c : Thread nD τ) arg8 fullShare xi6 ∗ owns (c : Thread nD τ) arg9 fullShare xi7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ owns (c : Thread nD τ) arg10 fullShare xi8 ∗ owns (c : Thread nD τ) arg11 fullShare xs0) -∗ K ⟨⟩))
          ⊢ wp frame (wpE (defs₀ (F := F)) Variants.none c none) E (cc1_loftq_lstsq i arg2 harg2 arg3 harg3 arg4 harg4 arg5 harg5 arg6 harg6 arg7 harg7 arg8 harg8 arg9 harg9 arg10 harg10 arg11 harg11) K } := by
  refine ⟨?_, ?_, [], [], [], [], fun xi6 xi7 xi8 E K => ?run⟩
  case run =>
    simp only [cc1_loftq_lstsq_eq_skeleton]; unfold cc1_loftq_lstsq_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; isplitr; · ipureintro; exact harg11.read_unread _
    iexact HS0

/-- Case B's pieces for output 4 tile its block (1 store of `S1x640x512`, checked by the kernel's evaluation: Lib/Ring.lean `Piece.tiledL`, linear in the pieces, through a loop's `@[irreducible]` trip theorem too), so they cover it. -/
theorem cover1_B_4 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) (y : S1x640x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xo4 xo5 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xo4 xo5 xs0).1 S1x640x512.size (by sl_kernel_rfl) y

/-- What case B leaves in output 4's staging buffer: its pieces read back over junk. -/
def out1_B_4 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) : Vec F S1x640x512 .f32 :=
  VO1_4.read (Elt F) (VO1_4.writes (Elt F) VO1_4.junk (kernelRun1_B c i arg2 harg2 arg3 harg3 arg4 harg4 arg5 harg5 arg6 harg6 arg7 harg7 arg8 harg8 arg9 harg9 arg10 harg10 arg11 harg11 hc0 x0 x1 x2 x3 xo4 xo5 xs0).1)

/-- Case B's pieces for output 5 tile its block (1 store of `S1x1x512`, checked by the kernel's evaluation: Lib/Ring.lean `Piece.tiledL`, linear in the pieces, through a loop's `@[irreducible]` trip theorem too), so they cover it. -/
theorem cover1_B_5 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) (y : S1x1x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 xo4 xo5 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 xo4 xo5 xs0).2.1 S1x1x512.size (by sl_kernel_rfl) y

/-- What case B leaves in output 5's staging buffer: its pieces read back over junk. -/
def out1_B_5 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) : Vec F S1x1x512 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 arg11 harg11 hc0 x0 x1 x2 x3 xo4 xo5 xs0).2.1)

/-- Case B stores nothing into output 6 (the window is idle at its points and not written back there) and another
    case keeps its prior contents (reads it before covering, or covers it in part): what its buffer holds after the body is what the
    point before left, CARRIED — an argument of this term alone, which the run does not take (Lib/Pipeline/TableIdle.lean `Dat.before_out_traj`). -/
def out1_B_6 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) (xo6 : Vec F S1x512x288 .i8) : Vec F S1x512x288 .i8 := xo6

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out1_B_7 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) (xo7 : Vec F S1x1x512 .f32) : Vec F S1x1x512 .f32 := xo7

/-- Case B stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out1_B_8 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) (xo8 : Vec F S1x512x288 .f32) : Vec F S1x512x288 .f32 := xo8

/-- Case B stores nothing into scratch `arg11`: it holds what the point before left. -/
def sout1_B_0 (c : Dev nD) (i : grid1.Coords) (arg2 : Memref sig .tc .vmem S1x512x512 .f32) (harg2 : arg2.IsWhole) (arg3 : Memref sig .tc .vmem S1x512x512 .i8) (harg3 : arg3.IsWhole) (arg4 : Memref sig .tc .vmem S1x288x512 .f32) (harg4 : arg4.IsWhole) (arg5 : Memref sig .tc .vmem S1x3x640x512 .bf16) (harg5 : arg5.IsWhole) (arg6 : Memref sig .tc .vmem S1x640x512 .f32) (harg6 : arg6.IsWhole) (arg7 : Memref sig .tc .vmem S1x1x512 .f32) (harg7 : arg7.IsWhole) (arg8 : Memref sig .tc .vmem S1x512x288 .i8) (harg8 : arg8.IsWhole) (arg9 : Memref sig .tc .vmem S1x1x512 .f32) (harg9 : arg9.IsWhole) (arg10 : Memref sig .tc .vmem S1x512x288 .f32) (harg10 : arg10.IsWhole) (arg11 : Memref sig .tc .vmem S288x512 .f32) (harg11 : arg11.IsWhole) (hc0 : ¬cond1_0 i)
    (x0 : Vec F S1x512x512 .f32) (x1 : Vec F S1x512x512 .i8) (x2 : Vec F S1x288x512 .f32) (x3 : Vec F S1x3x640x512 .bf16) (xo4 : Vec F S1x640x512 .f32) (xo5 : Vec F S1x1x512 .f32) (xs0 : Vec F S288x512 .f32) : Vec F S288x512 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1x640x512 .f32 × Vec F S1x1x512 .f32 × Vec F S1x512x288 .i8 × Vec F S1x1x512 .f32 × Vec F S1x512x288 .f32 × Vec F S288x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 36 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2 (outsAt1 c n (Nat.lt_of_succ_lt hn)).2.2.1, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2 (outsAt1 c n (Nat.lt_of_succ_lt hn)).2.2.2.1, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2 (outsAt1 c n (Nat.lt_of_succ_lt hn)).2.2.2.2.1, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2.1 (outsAt1 c n (Nat.lt_of_succ_lt hn)).2.2.2.2.2)

/-- `outsAt1` at a point of case A: that case's contents. -/
theorem outsAt1_A (c : Dev nD) (t : Fin cfg1.N) (h0 : t.val % 36 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 36 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2 (outsAt1 V c (t.val - 1) (Nat.lt_of_le_of_lt (Nat.sub_le _ _) t.isLt)).2.2.1, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2 (outsAt1 V c (t.val - 1) (Nat.lt_of_le_of_lt (Nat.sub_le _ _) t.isLt)).2.2.2.1, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2 (outsAt1 V c (t.val - 1) (Nat.lt_of_le_of_lt (Nat.sub_le _ _) t.isLt)).2.2.2.2.1, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2.2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 6's contents CARRY through the points that leave it idle: at such a point, its buffer not fresh, the proof data's
    `after` is the point before's (the case there stores nothing into the window and its term says so; a case that stores
    into it is not idle there by `liveAt1_6_κ`) — the hypothesis of Lib/Pipeline/TableIdle.lean `Dat.before_out_traj`. -/
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  have hN : t.val < 72 := lt_of_lt_of_eq t.isLt (show cfg1.N = 72 from N_1)
  rw [after1_6, after1_6]
  by_cases h0 : t.val % 36 = 0
  · rw [liveAt1_6_A t ((hcond1_0 t).mpr h0)] at hi
    exact absurd hi Bool.false_ne_true
  · rw [outsAt1_B V c t h0]
    dsimp only
    unfold out1_B_6
    rfl

/-- Output 7's contents CARRY through the points that leave it idle: at such a point, its buffer not fresh, the proof data's
    `after` is the point before's (the case there stores nothing into the window and its term says so; a case that stores
    into it is not idle there by `liveAt1_7_κ`) — the hypothesis of Lib/Pipeline/TableIdle.lean `Dat.before_out_traj`. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 72 := lt_of_lt_of_eq t.isLt (show cfg1.N = 72 from N_1)
  rw [after1_7, after1_7]
  by_cases h0 : t.val % 36 = 0
  · rw [liveAt1_7_A t ((hcond1_0 t).mpr h0)] at hi
    exact absurd hi Bool.false_ne_true
  · rw [outsAt1_B V c t h0]
    dsimp only
    unfold out1_B_7
    rfl

/-- Output 8's contents CARRY through the points that leave it idle: at such a point, its buffer not fresh, the proof data's
    `after` is the point before's (the case there stores nothing into the window and its term says so; a case that stores
    into it is not idle there by `liveAt1_8_κ`) — the hypothesis of Lib/Pipeline/TableIdle.lean `Dat.before_out_traj`. -/
theorem hcarry1_8 (c : Dev nD) : ∀ (t : Fin cfg1.N) (_ : t.val ≠ 0), cfg1.idle 8 (grid1.coords t) = true → cfg1.fresh 8 t.val = false →
    (dat1 V c).after 8 t = (dat1 V c).after 8 ⟨t.val - 1, by omega⟩ := by
  intro t _ hi _
  have hN : t.val < 72 := lt_of_lt_of_eq t.isLt (show cfg1.N = 72 from N_1)
  rw [after1_8, after1_8]
  by_cases h0 : t.val % 36 = 0
  · rw [liveAt1_8_A t ((hcond1_0 t).mpr h0)] at hi
    exact absurd hi Bool.false_ne_true
  · rw [outsAt1_B V c t h0]
    dsimp only
    unfold out1_B_8
    rfl
/-- At a point of case B output 4's current staging buffer holds what the body left at the point before: the point is
    not the first, the buffer was not written back between (`flush1_4`), the window is live and uncut (Lib/Pipeline/Frame.lean
    `Dat.before_out_kept`). -/
theorem before1_4_B (c : Dev nD) (t : Fin cfg1.N) (h0 : ¬t.val % 36 = 0) (d) :
    (dat1 V c).before 4 t d = (outsAt1 V c (t.val - 1) (Nat.lt_of_le_of_lt (Nat.sub_le _ _) t.isLt)).1 := by
  have hN : t.val < 72 := lt_of_lt_of_eq t.isLt (show cfg1.N = 72 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a point of case B output 5's current staging buffer holds what the body left at the point before: the point is
    not the first, the buffer was not written back between (`flush1_5`), the window is live and uncut (Lib/Pipeline/Frame.lean
    `Dat.before_out_kept`). -/
theorem before1_5_B (c : Dev nD) (t : Fin cfg1.N) (h0 : ¬t.val % 36 = 0) (d) :
    (dat1 V c).before 5 t d = (outsAt1 V c (t.val - 1) (Nat.lt_of_le_of_lt (Nat.sub_le _ _) t.isLt)).2.1 := by
  have hN : t.val < 72 := lt_of_lt_of_eq t.isLt (show cfg1.N = 72 from N_1)
  rw [Dat.before_out_kept _ 5 rfl t (by omega) (Bool.eq_false_iff.mpr fun h => by have := (flush1_5 _).mp h; dsimp only at this; omega)
    (fun _ => rfl) (fun _ _ => rfl)]
  dsimp only [dat1]

/-- An output left untouched by the body at a point that is idle for it: its buffer, found as the point before left it, is
    what the body obligation asks, whether or not the pipeline writes the block back there (where it does, what is
    written back is what the run's first point stored, carried). -/
theorem leaves1_of_before (c : Dev nD) (t : Fin cfg1.N) (w : Fin cfg1.W) (hw : (cfg1.win w).isOut = true)
    (hclip : ∀ (i : cfg1.grid.Coords) a, (cfg1.win w).clip i a = none) (hi : cfg1.idle w (grid1.coords t) = true)
    (hf : cfg1.fresh w t.val = false) (h0 : t.val ≠ 0)
    (hcarry : ∀ (t : Fin cfg1.N) (_ : t.val ≠ 0), cfg1.idle w (grid1.coords t) = true → cfg1.fresh w t.val = false →
      (dat1 V c).after w t = (dat1 V c).after w ⟨t.val - 1, by omega⟩) (d) :
    owns (c : Thread nD τ) ((cfg1.win w).stage (cfg1.slots t w)) fullShare ((dat1 V c).before w t d)
      ⊢ ((dat1 V c).leavesExact w t : sProp 𝕄) := by
  cases hfl : (cfg1.win w).flush t
  · rw [Dat.leavesExact_idle (dat1 V c) w t hi hfl]
    iintro H; iexists _; iexact H
  · have e : (dat1 V c).before w t d = (dat1 V c).after w t := by
      rw [Dat.before_out_traj (dat1 V c) w hw hclip hcarry t.val t rfl d, if_neg (by rw [hf]; exact Bool.false_ne_true), hcarry t h0 hi hf]
    rw [e]
    unfold Dat.leavesExact; rw [hi, hfl]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 72 := lt_of_lt_of_eq t.isLt (show cfg1.N = 72 from N_1)
  by_cases h0 : t.val % 36 = 0
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6_A t ((hcond1_0 t).mpr h0)], after1_6]
    rw [show (dat1 V c).leavesExact 7 t = owns (c : Thread nD τ) (ms1_7 t) fullShare ((dat1 V c).after 7 t) from by
      unfold Dat.leavesExact; rw [liveAt1_7_A t ((hcond1_0 t).mpr h0)], after1_7]
    rw [show (dat1 V c).leavesExact 8 t = owns (c : Thread nD τ) (ms1_8 t) fullShare ((dat1 V c).after 8 t) from by
      unfold Dat.leavesExact; rw [liveAt1_8_A t ((hcond1_0 t).mpr h0)], after1_8]
    by_cases hz : t.val = 0
    · rw [PhiS1_castSucc V c t, PhiS1_zero V c _ _ hz, PhiA1_eq]
      rw [outsAt1_A V c t h0]
      unfold out1_A_4 out1_A_5 out1_A_6 out1_A_7 out1_A_8 sout1_A_0; (try dsimp only)
      iintro ⟨⟨⟨HR0, HR1, HR2, HR3, HR4, HR5, HR6, HR7, HR8, HR9, HR10, HR11, HR12, HR13, HR14, HR15, HR16, HR17, HR18, HR19, HS0, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexact HS0
      iintro ⟨H0, H1, H2, H3, ⟨%e4, H4⟩, ⟨%e5, H5⟩, ⟨%e6, H6⟩, ⟨%e7, H7⟩, ⟨%e8, H8⟩, ⟨%es0, HS0⟩⟩
      isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32 Hg]
      · isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _)
      unfold owns; iexists _; isplitr
      swap; · iexact H8
      ipureintro; exact View.read_writes_of_cover _ _ _ _ _ (cover1_A_8 c _ _ _ _ _ _ _ _ _ _ _ _ _ _ _ _ _ _ _ _ _ _ _ _ _ _)
    · rw [PhiS1_castSucc V c t, PhiS1_pos V c _ _ hz]
      rw [outsAt1_A V c t h0]
      unfold out1_A_4 out1_A_5 out1_A_6 out1_A_7 out1_A_8 sout1_A_0; (try dsimp only)
      iintro ⟨⟨⟨HR0, HR1, HR2, HR3, HR4, HR5, HR6, HR7, HR8, HR9, HR10, HR11, HR12, HR13, HR14, HR15, HR16, HR17, HR18, HR19, HS0, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [HS0]; · iexists _; iexact HS0
      iintro ⟨H0, H1, H2, H3, ⟨%e4, H4⟩, ⟨%e5, H5⟩, ⟨%e6, H6⟩, ⟨%e7, H7⟩, ⟨%e8, H8⟩, ⟨%es0, HS0⟩⟩
      isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32 Hg]
      · isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _)
      unfold owns; iexists _; isplitr
      swap; · iexact H8
      ipureintro; exact View.read_writes_of_cover _ _ _ _ _ (cover1_A_8 c _ _ _ _ _ _ _ _ _ _ _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    by_cases hz : t.val = 0
    · exfalso; have hN : t.val < 72 := lt_of_lt_of_eq t.isLt (show cfg1.N = 72 from N_1); omega
    · rw [PhiS1_castSucc V c t, PhiS1_pos V c _ _ hz]
      rw [outsAt1_B V c t h0]
      simp only [before1_4_B V c t h0, before1_5_B V c t h0]
      unfold out1_B_4 out1_B_5 sout1_B_0; (try dsimp only)
      iintro ⟨⟨⟨HR0, HR1, HR2, HR3, HR4, HR5, HR6, HR7, HR8, HR9, HR10, HR11, HR12, HR13, HR14, HR15, HR16, HR17, HR18, HR19, HS0, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) _ _ _).2.2.2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, ⟨%e4, H4⟩, ⟨%e5, H5⟩, H6, H7, H8, HS0⟩
      isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32 Hg]
      · isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HS0]
          · iexact HS0
          isplitl [HR21]
          · iexact HR21
          isplitl [HR22]
          · iexact HR22
          isplitl [HR23]
          · iexact HR23
          isplitl [HR24]
          · iexact HR24
          isplitl [HR25]
          · iexact HR25
          isplitl [HR26]
          · iexact HR26
          isplitl [HR27]
          · iexact HR27
          isplitl [HR28]
          · iexact HR28
          isplitl [HR29]
          · iexact HR29
          isplitl [HR30]
          · iexact HR30
          isplitl [HR31]
          · iexact HR31
          iexact HR32
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _ _ _)
      isplitl [H6]; · iapply (leaves1_of_before V c t 6 rfl (fun _ _ => rfl) (idleAt1_6_B t (fun h => h0 ((hcond1_0 t).mp h))) ((fresh1_6_eq t).trans (notFresh1_6_B t (fun h => h0 ((hcond1_0 t).mp h)))) hz (hcarry1_6 V c) _); iexact H6
      isplitl [H7]; · iapply (leaves1_of_before V c t 7 rfl (fun _ _ => rfl) (idleAt1_7_B t (fun h => h0 ((hcond1_0 t).mp h))) ((fresh1_7_eq t).trans (notFresh1_7_B t (fun h => h0 ((hcond1_0 t).mp h)))) hz (hcarry1_7 V c) _); iexact H7
      iapply (leaves1_of_before V c t 8 rfl (fun _ _ => rfl) (idleAt1_8_B t (fun h => h0 ((hcond1_0 t).mp h))) ((fresh1_8_eq t).trans (notFresh1_8_B t (fun h => h0 ((hcond1_0 t).mp h)))) hz (hcarry1_8 V c) _); iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HR14, HR15, HR16, HR17, HR18, HR19, HS0, HR21, HR22, HR23, HR24, HR25, HR26, HR27, HR28, HR29, HR30, HR31, HR32⟩, Hg⟩
  isplitl [HR0 HR1 HR2 HR3 HR4 HR5 HR6 HR7 HR8 HR9 HR10 HR11 HR12 HR13 HR14 HR15 HR16 HR17 HR18 HR19 HS0 HR21 HR22 HR23 HR24 HR25 HR26 HR27 HR28 HR29 HR30 HR31 HR32]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HS0]
    · iexists _; iexact HS0
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    isplitl [HR28]
    · iexact HR28
    isplitl [HR29]
    · iexact HR29
    isplitl [HR30]
    · iexact HR30
    isplitl [HR31]
    · iexact HR31
    iexact HR32
  iexact Hg

/-- The same after the last point. -/
theorem hout1 (c : Dev nD) : (dat1 V c).Φ (Fin.last cfg1.N) ⊢ Pipeline.ΦA spec1 c :=
  Phi_out1 V c _ (by rw [Fin.val_last]; have : cfg1.N = 72 := N_1; omega)

end Regions

end Cert.KernelIdeal.Gen

end
-- ==== Proof.Frame.Region2.lean ====
module

public import proofs.«01_k».proof.Proof.Gen.KernelIdeal.Launch
public import proofs.«01_k».proof.Proof.Frame.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_loftq_finish` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x512x640 := Rect.unit (s := S1x512x640) ![0, 0, 0] S1x512x640.size inb_S1x512x640_S1x512x640_0_0_0
abbrev r2_1 : Rect S1x640x512 := Rect.unit (s := S1x640x512) ![0, 0, 0] S1x640x512.size inb_S1x640x512_S1x640x512_0_0_0
abbrev r2_2 : Rect S1x2x640x640 := Rect.unit (s := S1x2x640x640) ![0, 1, 0, 0] S1x1x640x640.size inb_S1x2x640x640_S1x1x640x640_0_1_0_0
abbrev r2_3 : Rect S1x2x640x640 := Rect.unit (s := S1x2x640x640) ![0, 0, 0, 0] S1x1x640x640.size inb_S1x2x640x640_S1x1x640x640_0_0_0_0
abbrev r2_4 : Rect S1x1x512 := Rect.unit (s := S1x1x512) ![0, 0, 0] S1x1x512.size inb_S1x1x512_S1x1x512_0_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1x512x640 .f32) (x1 : Vec F S1x2x640x640 .f32) (x2 : Vec F S1x640x512 .f32) (x3 : Vec F S1x1x512 .f32) : Vec F S1x512x640 .f32 :=
  View.canon [⟨r2_0, k2_pay2 (k2_pay6 (View.ld x0 r2_0) (View.ld x2 r2_1) (View.ld x1 r2_2) (View.ld x1 r2_3))⟩]

/-- Its stores tile the buffer (checked by evaluation), so they cover it. -/
theorem cover2_4 (p0 : Vec F S1x512x640 .f32) (y : S1x512x640.Idx) :
    ∃ pc ∈ ([⟨r2_0, p0⟩] : List (View.Piece (Elt F) S1x512x640 .f32)), y ∈ pc.1.set :=
  View.cover_of_tiled [⟨r2_0, p0⟩] S1x512x640.size (by rfl) y

/-- Window 5's staging buffer after the body, from the input windows' blocks: its 1 store as pieces, LAST
    FIRST (Lib/Pipeline/FrameBody.lean `View.canon`; the payloads are the skeleton's). -/
def out2_5 (x0 : Vec F S1x512x640 .f32) (x1 : Vec F S1x2x640x640 .f32) (x2 : Vec F S1x640x512 .f32) (x3 : Vec F S1x1x512 .f32) : Vec F S1x1x512 .f32 :=
  View.canon [⟨r2_4, k2_pay1 (k2_pay4 (View.ld x2 r2_1)) (k2_pay7 (View.ld x0 r2_0) (View.ld x2 r2_1) (View.ld x1 r2_2) (View.ld x1 r2_3)) (k2_pay8 (View.ld x0 r2_0) (View.ld x2 r2_1) (View.ld x1 r2_2) (View.ld x1 r2_3)) (View.ld x3 r2_4)⟩]

/-- Its stores tile the buffer (checked by evaluation), so they cover it. -/
theorem cover2_5 (p0 : Vec F S1x1x512 .f32) (y : S1x1x512.Idx) :
    ∃ pc ∈ ([⟨r2_4, p0⟩] : List (View.Piece (Elt F) S1x1x512 .f32)), y ∈ pc.1.set :=
  View.cover_of_tiled [⟨r2_4, p0⟩] S1x1x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x512x640 .f32) (harg1 : arg1.IsWhole) (arg2 : Memref sig .tc .vmem S1x2x640x640 .f32) (harg2 : arg2.IsWhole) (arg3 : Memref sig .tc .vmem S1x640x512 .f32) (harg3 : arg3.IsWhole) (arg4 : Memref sig .tc .vmem S1x1x512 .f32) (harg4 : arg4.IsWhole) (arg5 : Memref sig .tc .vmem S1x512x640 .f32) (harg5 : arg5.IsWhole) (arg6 : Memref sig .tc .vmem S1x1x512 .f32) (harg6 : arg6.IsWhole)
    (x0 : Vec F S1x512x640 .f32) (x1 : Vec F S1x2x640x640 .f32) (x2 : Vec F S1x640x512 .f32) (x3 : Vec F S1x1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3) ∗ owns (c : Thread nD τ) arg6 fullShare (out2_5 x0 x1 x2 x3)) -∗ K ⟨⟩))
      ⊢ wp frame (wpE (defs₀ (F := F)) Variants.none c none) E (cc2_loftq_finish i arg1 harg1 arg2 harg2 arg3 harg3 arg4 harg4 arg5 harg5 arg6 harg6) K := by
  simp only [cc2_loftq_finish_eq_skeleton]; unfold cc2_loftq_finish_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Hosts0.lean ====
module

public import proofs.«01_k».proof.Proof.Gen.KernelIdeal.Launch
public import proofs.«01_k».proof.Proof.Frame.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v3, main_v4]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.Frame.Fold0.lean ====
module

public import proofs.«01_k».proof.Proof.Frame.Region0
public import proofs.«01_k».proof.Proof.Frame.Region1
public import proofs.«01_k».proof.Proof.Frame.Region2
public import proofs.«01_k».proof.Proof.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- A reference that is none of region 2's OUTPUT arrays keeps its entry contents across it: an input window's
    array is never written back (`Dat.arrAt_in`, `A_eq2`); any other buffer is left as is. -/
theorem W3_of (c : Dev nD) (r : Ref sig .tc) (h : ∀ w : Fin cfg2.W, Pipeline.arrRef spec2 w = r → (cfg2.win w).isOut = false) :
    W3 m ρ c (Proc.devRef .tc r) = W2 m ρ c (Proc.devRef .tc r) := by
  by_cases hw : ∃ w : Fin cfg2.W, Pipeline.arrRef spec2 w = r
  · obtain ⟨w, rfl⟩ := hw
    exact (W3_arr m ρ c w).trans (((dat2 (V2 m ρ) c).arrAt_in w (h w rfl) _).trans (A_eq2 (V2 m ρ) c w))
  · exact W3_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn2 a ha)).trans (W2_args m ρ c a ha)
/-- The same read at the TensorCore's references (region 2's exit contents). -/
abbrev V3 : (c : Dev nD) → (b : Ref sig .tc) → Buf (Elt F) ((c : Thread nD τ).loc b) := fun c b => W3 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After `hostOps3`. -/
abbrev W4 : Dev nD → Valuation τ sig (Elt F) := fun c => StableHlo.after hostOps3 (W3 m ρ c)
/-- A reference `hostOps3` does not write keeps its contents across it. -/
theorem W4_of (c : Dev nD) (r : Ref sig .tc) (h : r ∉ hostOps3_W) : W4 m ρ c (Proc.devRef .tc r) = W3 m ρ c (Proc.devRef .tc r) :=
  StableHlo.after_of_writes_sub hostOps3 _ hostOps3_writes h
theorem W4_args (c : Dev nD) : ∀ a ∈ argRefs, W4 m ρ c (Proc.devRef .tc a) = m ((c : Thread nD τ).loc a) :=
  fun a ha => (W4_of m ρ c a (hostOps3_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
end Cert.KernelIdeal.Gen

end
-- ==== Proof.Frame.State.lean ====
module

public import proofs.«01_k».proof.Proof.Frame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KernelIdeal.Gen

end
-- ==== Proof.Frame.Record0.lean ====
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m ρ) c)
    unfold Pipeline.ΦA
    iintro ⟨Hp, -, Hr⟩
    isplitl [Hr]; · iexact Hr
    iexact Hp
  hout c := by
    rw [Pipeline.ownSems0_none]
    refine BIBase.Entails.trans (hout1 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) (A_eq2 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Whole.lean ====
module

public import proofs.«01_k».proof.Proof.Frame.Record0
public import proofs.«01_k».proof.Proof.Frame.Record1
public import proofs.«01_k».proof.Proof.Frame.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- WHERE A RUN ENDS: at the compiled mesh, from any memory with zero counters, every weakly fair execution of @main on the
    TensorCores terminates, nothing faulting, and every final state has each buffer that is not scoped at `W4` and every semaphore
    counter of the machine at zero: the kit's launch over the segments, the last thread state read against the final state
    (`pointsTo_read_all`); the kit shows every counter at zero except the TensorCores' unscoped ones, of which there are none. -/
theorem ends : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: `ends` read at the
    arguments, each by `W4_<arg>`. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (ends m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.KernelIdeal.Gen

end
-- ==== Proof.Frame.Bits.lean ====
module

public import proofs.«01_k».proof.Defs
public import proofs.«01_k».proof.Proof.Gen.Kernel
public import proofs.«01_k».proof.Proof.Frame.Whole

@[expose] public section

noncomputable section

namespace Cert.Proof

open Idealize.ShloMosaic Idealize.ShloMosaic.TcCoe Idealize.ShloMosaic.Tactic
open Idealize.SL Idealize.SL.RA Idealize.SL.BI

/-- The frame of the kernel on words: the idealized program is the kernel's own text, so the frame proved of it at any
    reading of the floats, taken at `Bits`, is the kernel's (the two statements are the same by unfolding). -/
theorem frameBits : Cert.quiescent_Kernel (hKernel := Cert.Kernel.Gen.facts) := by
  intro m ρ _
  refine cast ?_ (Cert.KernelIdeal.Gen.frame (F := Bits) m ρ)
  sl_kernel_rfl

end Cert.Proof

end
-- ==== Proof.Value.Finite.lean ====
module

public import proofs.«01_k».proof.Pre_finite
public import Idealize.ShloMosaic.Lib.ReduceAll
public import Idealize.ShloMosaic.Lib.IdealHost
public import Idealize.ShloMosaic.Lib.Pipeline.ValueKit

/-! The precondition: every entry of the three arguments is smaller than infinity in magnitude, so every entry is a real. -/

@[expose] public section

set_option maxRecDepth 16384

noncomputable section

namespace Cert.Pre_finite.Gen

open Cert.Pre_finite Idealize.ShloMosaic

/-- The side conditions of the precondition's operations. -/
instance facts : Cert.Pre_finite.Facts where
  bitsLt_bf16_f32 := by decide
  bcast_S_S2x512x18432 := by decide
  reducesTo_S2x512x18432_S_d0_1_2 := by decide
  h_S_ := by decide
  bcast_S_S2x512x640 := by decide
  reducesTo_S2x512x640_S_d0_1_2 := by decide
  bcast_S_S2x18432x640 := by decide
  reducesTo_S2x18432x640_S_d0_1_2 := by decide

/-- A number smaller than infinity in magnitude is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have ht : Ideal.ofBits FTy.f32 0x7F800000#32 = ⊤ := by simp [Ideal.ofBits, Ideal.ieee]
  have h' : Ideal.cmp .olt (max x (-x)) ⊤ = 1#1 := ht ▸ h
  induction x with
  | bot => simp [Ideal.cmp] at h'
  | top => simp [Ideal.cmp] at h'
  | coe r => rfl

/-- A one-bit conjunction that is one has both sides one. -/
theorem both (x y : BitVec 1) (h : IntOp.andi x y = 1#1) : x = 1#1 ∧ y = 1#1 := by
  revert x y
  decide

/-- Every entry of arguments that satisfy the precondition is a real. -/
theorem reals (x0 : FVec Ideal S2x512x18432 .bf16) (x1 : FVec Ideal S2x512x640 .f32) (x2 : FVec Ideal S2x18432x640 .f32)
    (h : Cert.Pre_finite.fn (F := Ideal) x0 x1 x2 = fun _ => 1#1) :
    (∀ i, x0 i = (((x0 i).toReal : ℝ) : EReal)) ∧ (∀ i, x1 i = (((x1 i).toReal : ℝ) : EReal)) ∧ ∀ i, x2 i = (((x2 i).toReal : ℝ) : EReal) := by
  have h0 := congrFun h (Shape.Idx.first Facts.h_S_)
  dsimp only [Cert.Pre_finite.fn] at h0
  obtain ⟨h01, h2⟩ := both _ _ h0
  obtain ⟨h0, h1⟩ := both _ _ h01
  haveI : Subsingleton S_.Idx := ⟨fun f g => funext fun k => k.elim0⟩
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i)⟩

end Cert.Pre_finite.Gen
-- ==== Proof.Value.Code.lean ====
module

public import Idealize.ShloMosaic.Lib.Pipeline.ValueKit
public import Idealize.ShloMosaic.Lib.IdealHost

/-! The four-bit code of a number: the fifteen thresholds, the search for the code by four comparisons, the same code by
    counting the thresholds below the number, and the table of the sixteen levels. -/

@[expose] public section

set_option maxRecDepth 16384

noncomputable section

namespace Cert.Nf4

open Idealize.ShloMosaic

/-- The extended real that a word of 32 bits stands for. -/
abbrev lit (b : BitVec 32) : EReal := Ideal.ofBits FTy.f32 b

/-- The fifteen thresholds as words, in increasing order. -/
def midBits : Fin 15 → BitVec 32 := ![3210288344#32, 3206304368#32, 3203105920#32, 3199068790#32, 3195026668#32, 3188537532#32,
  3174725745#32, 1025702655#32, 1039550562#32, 1045456864#32, 1049985748#32, 1053250553#32, 1056992516#32, 1059360175#32, 1063029210#32]

/-- Each threshold is below the next one. -/
theorem mid_lt (k : Fin 14) : lit (midBits k.castSucc) < lit (midBits k.succ) := by
  fin_cases k <;> simp [midBits, Ideal.ofBits, Ideal.ieee] <;> simp only [← EReal.coe_mul, ← EReal.coe_neg, EReal.coe_lt_coe_iff, neg_lt_neg_iff] <;> norm_num

/-- The starting value of a maximum is the least extended real. -/
theorem lit_bot : lit 4286578688#32 = ⊥ := by simp [Ideal.ofBits, Ideal.ieee]

/-- The word whose four bits are the answers of the binary search for `y` among the thresholds. -/
abbrev searchWord (y : EReal) : BitVec 32 :=
  IntOp.ori
      (IntOp.ori
        (IntOp.ori (if lit 1025702655#32 < y then 8#32 else 0#32)
          (if (if lit 1025702655#32 < y then lit 1053250553#32 else lit 3199068790#32) < y then 4#32 else 0#32))
        (if (if lit 1025702655#32 < y then
                if (if lit 1025702655#32 < y then lit 1053250553#32 else lit 3199068790#32) < y then lit 1059360175#32
                else lit 1045456864#32
              else
                if (if lit 1025702655#32 < y then lit 1053250553#32 else lit 3199068790#32) < y then lit 3188537532#32
                else lit 3206304368#32) < y then 2#32 else 0#32))
      (if (if lit 1025702655#32 < y then
              if (if lit 1025702655#32 < y then lit 1053250553#32 else lit 3199068790#32) < y then
                if (if lit 1025702655#32 < y then
                        if (if lit 1025702655#32 < y then lit 1053250553#32 else lit 3199068790#32) < y then
                          lit 1059360175#32
                        else lit 1045456864#32
                      else
                        if (if lit 1025702655#32 < y then lit 1053250553#32 else lit 3199068790#32) < y then
                          lit 3188537532#32
                        else lit 3206304368#32) < y then lit 1063029210#32
                else lit 1056992516#32
              else
                if (if lit 1025702655#32 < y then
                        if (if lit 1025702655#32 < y then lit 1053250553#32 else lit 3199068790#32) < y then
                          lit 1059360175#32
                        else lit 1045456864#32
                      else
                        if (if lit 1025702655#32 < y then lit 1053250553#32 else lit 3199068790#32) < y then
                          lit 3188537532#32
                        else lit 3206304368#32) < y then lit 1049985748#32
                else lit 1039550562#32
            else
              if (if lit 1025702655#32 < y then lit 1053250553#32 else lit 3199068790#32) < y then
                if (if lit 1025702655#32 < y then
                        if (if lit 1025702655#32 < y then lit 1053250553#32 else lit 3199068790#32) < y then
                          lit 1059360175#32
                        else lit 1045456864#32
                      else
                        if (if lit 1025702655#32 < y then lit 1053250553#32 else lit 3199068790#32) < y then
                          lit 3188537532#32
                        else lit 3206304368#32) < y then lit 3174725745#32
                else lit 3195026668#32
              else
                if (if lit 1025702655#32 < y then
                        if (if lit 1025702655#32 < y then lit 1053250553#32 else lit 3199068790#32) < y then
                          lit 1059360175#32
                        else lit 1045456864#32
                      else
                        if (if lit 1025702655#32 < y then lit 1053250553#32 else lit 3199068790#32) < y then
                          lit 3188537532#32
                        else lit 3206304368#32) < y then lit 3203105920#32
                else lit 3210288344#32) < y then 1#32 else 0#32)

/-- The code of `y`: how many of the fifteen thresholds lie below it. -/
def code (y : EReal) : Fin 16 :=
  ⟨(∑ k : Fin 15, if lit (midBits k) < y then 1 else 0), Nat.lt_succ_of_le
    ((Finset.sum_le_card_nsmul _ _ 1 (fun k _ => by split <;> simp)).trans (by simp))⟩

/-- The code as a word of 32 bits. -/
def codeWord (y : EReal) : BitVec 32 := BitVec.ofNat 32 (code y).val

/-- The binary search finds the number of thresholds below `y`. -/
theorem searchWord_eq (y : EReal) : searchWord y = codeWord y := by
  have h : ∀ k : Fin 14, lit (midBits k.succ) < y → lit (midBits k.castSucc) < y := fun k hk => (mid_lt k).trans hk
  have h0 := h 0; have h1 := h 1; have h2 := h 2; have h3 := h 3; have h4 := h 4; have h5 := h 5; have h6 := h 6
  have h7 := h 7; have h8 := h 8; have h9 := h 9; have h10 := h 10; have h11 := h 11; have h12 := h 12; have h13 := h 13
  clear h
  simp only [codeWord, code, searchWord, Fin.sum_univ_succ, Fin.sum_univ_zero]
  simp only [midBits, Fin.isValue, Fin.reduceSucc, Fin.reduceCastSucc, Matrix.cons_val, Fin.succ_zero_eq_one, Fin.castSucc_zero, Fin.zero_eta] at *
  by_cases a14 : lit 1063029210#32 < y; · simp_all [-not_lt, IntOp.ori]
  by_cases a13 : lit 1059360175#32 < y; · simp_all [-not_lt, IntOp.ori]
  by_cases a12 : lit 1056992516#32 < y; · simp_all [-not_lt, IntOp.ori]
  by_cases a11 : lit 1053250553#32 < y; · simp_all [-not_lt, IntOp.ori]
  by_cases a10 : lit 1049985748#32 < y; · simp_all [-not_lt, IntOp.ori]
  by_cases a9 : lit 1045456864#32 < y; · simp_all [-not_lt, IntOp.ori]
  by_cases a8 : lit 1039550562#32 < y; · simp_all [-not_lt, IntOp.ori]
  by_cases a7 : lit 1025702655#32 < y; · simp_all [-not_lt, IntOp.ori]
  by_cases a6 : lit 3174725745#32 < y; · simp_all [-not_lt, IntOp.ori]
  by_cases a5 : lit 3188537532#32 < y; · simp_all [-not_lt, IntOp.ori]
  by_cases a4 : lit 3195026668#32 < y; · simp_all [-not_lt, IntOp.ori]
  by_cases a3 : lit 3199068790#32 < y; · simp_all [-not_lt, IntOp.ori]
  by_cases a2 : lit 3203105920#32 < y; · simp_all [-not_lt, IntOp.ori]
  by_cases a1 : lit 3206304368#32 < y; · simp_all [-not_lt, IntOp.ori]
  by_cases a0 : lit 3210288344#32 < y; · simp_all [-not_lt, IntOp.ori]
  simp_all [-not_lt, IntOp.ori]

/-- The greatest of 64 magnitudes, replaced by one where it is zero. -/
def amaxOf (f : Fin 64 → EReal) : EReal :=
  if Finset.fold max (lit 4286578688#32) (fun k => FloatOps.absf (F := Ideal) (φ := .f32) (f k)) Finset.univ = 0 then 1
  else Finset.fold max (lit 4286578688#32) (fun k => FloatOps.absf (F := Ideal) (φ := .f32) (f k)) Finset.univ

/-- The same, read from right to left. -/
theorem amaxOf_fold (f : Fin 64 → EReal) :
    (if Finset.fold max (Ideal.ofBits FTy.f32 4286578688#32) (fun k => FloatOps.absf (F := Ideal) (φ := .f32) (f k)) Finset.univ = 0 then 1
      else Finset.fold max (Ideal.ofBits FTy.f32 4286578688#32) (fun k => FloatOps.absf (F := Ideal) (φ := .f32) (f k)) Finset.univ) = amaxOf f := rfl

/-- Equal arguments, three of them. -/
theorem eq3 {α β γ δ : Type} (f : α → β → γ → δ) {x x' : α} {y y' : β} {z z' : γ} (hx : x = x') (hy : y = y') (hz : z = z') :
    f x y z = f x' y' z' := by subst hx hy hz; rfl

/-- The differences `w - a b`, indexed by batch, column and row. -/
def diff (w : Fin 2 → Fin 512 → Fin 18432 → ℝ) (a : Fin 2 → Fin 512 → Fin 640 → ℝ) (b : Fin 2 → Fin 18432 → Fin 640 → ℝ)
    (z : Fin 2) (d : Fin 18432) (s : Fin 512) : ℝ := w z s d - ∑ k, b z d k * a z s k

/-- A finite sum of reals, as an extended real. -/
theorem coe_sum {ι : Type} (s : Finset ι) (f : ι → ℝ) : ((∑ k ∈ s, f k : ℝ) : EReal) = ∑ k ∈ s, (f k : EReal) := by
  induction s using Finset.cons_induction with
  | empty => simp
  | cons x s hx ih => rw [Finset.sum_cons, Finset.sum_cons, EReal.coe_add, ih]

/-- A real minus itself is zero, as an extended real. -/
theorem coe_sub_self (r : ℝ) : (r : EReal) - (r : EReal) = 0 := by rw [← EReal.coe_sub, sub_self, EReal.coe_zero]

/-- The product of six pieces on the left with six pieces on the right, where the second and the third piece of either
    factor vanish, is the plain product. -/
theorem cat_sum (f g : Fin 640 → EReal) :
    (∑ x : Fin 3840,
        (if h : x.val < 640 then f ⟨x.val, h⟩
          else if h : x.val - 640 < 640 then f ⟨x.val - 640, h⟩
          else if h : x.val - 640 - 640 < 640 then 0
          else if h : x.val - 640 - 640 - 640 < 640 then f ⟨x.val - 640 - 640 - 640, h⟩
          else if h : x.val - 640 - 640 - 640 - 640 < 640 then 0
          else 0) *
        (if h : x.val < 640 then g ⟨x.val, h⟩
          else if h : x.val - 640 < 640 then 0
          else if h : x.val - 640 - 640 < 640 then g ⟨x.val - 640 - 640, h⟩
          else if h : x.val - 640 - 640 - 640 < 640 then 0
          else if h : x.val - 640 - 640 - 640 - 640 < 640 then 0
          else g ⟨x.val - 640 - 640 - 640 - 640 - 640, by omega⟩)) = ∑ k, f k * g k := by
  refine (Fintype.sum_of_injective (Fin.castLE (by omega)) (Fin.castLE_injective _) _ _ (fun x hx => ?_) (fun k => ?_)).symm
  · have hx' : ¬ x.val < 640 := fun h => hx ⟨⟨x.val, h⟩, rfl⟩
    rw [dif_neg hx', dif_neg hx']
    split_ifs <;> simp
  · simp

/-- The scale of block `n` of 64 neighbouring columns. -/
def scale (v : Fin 2 → Fin 18432 → Fin 512 → EReal) (z : Fin 2) (n : Fin 288) (s : Fin 512) : EReal :=
  amaxOf fun k => v z ⟨n.val * 64 + k.val, by omega⟩ s

/-- The scaled difference that is coded. -/
def scaled (v : Fin 2 → Fin 18432 → Fin 512 → EReal) (z : Fin 2) (d : Fin 18432) (s : Fin 512) : EReal :=
  v z d s * Ideal.div 1 (scale v z ⟨d.val / 64, by omega⟩ s)

/-- The words of a pair of neighbouring rows, joined as the low and the high half of one word, shifted and masked to a byte. -/
def pairWord (lo hi : BitVec 32) : BitVec 32 :=
  IntOp.andi (IntOp.ori (hi.setWidth 16 ++ lo.setWidth 16) (IntOp.shrsi ArithUnit.vector (hi.setWidth 16 ++ lo.setWidth 16) 12#32)) 255#32

end Cert.Nf4
-- ==== Proof.Value.Level.lean ====
module

public import proofs.«01_k».proof.Proof.Value.Code

/-! The sixteen levels as real numbers, and the selection of the level of a code by its four bits. -/

@[expose] public section

set_option maxRecDepth 16384

noncomputable section

namespace Cert.Nf4

open Idealize.ShloMosaic

/-- The sixteen levels as words, in increasing order. -/
def levelBits : Fin 16 → BitVec 32 := ![3212836864#32, 3207739825#32, 3204868912#32, 3200922272#32, 3197215309#32, 3191682367#32,
  3183114353#32, 0#32, 1034091263#32, 1042598627#32, 1048315101#32, 1051525946#32, 1054975160#32, 1058015147#32, 1060705203#32, 1065353216#32]

/-- The level of a code. -/
def level (n : Fin 16) : ℝ := (lit (levelBits n)).toReal

/-- The levels are finite. -/
theorem lit_level (n : Fin 16) : lit (levelBits n) = ((level n : ℝ) : EReal) := by
  have h : ∃ r : ℝ, lit (levelBits n) = ((r : ℝ) : EReal) := by
    fin_cases n <;> simp [levelBits, Ideal.ofBits, Ideal.ieee] <;>
      first
      | exact ⟨_, rfl⟩
      | (simp only [← EReal.coe_mul, ← EReal.coe_neg]; exact ⟨_, rfl⟩)
      | exact ⟨0, rfl⟩
      | exact ⟨1, rfl⟩
      | exact ⟨-1, rfl⟩
  obtain ⟨r, hr⟩ := h
  rw [level, hr, EReal.toReal_coe]

/-- The level chosen by four answers, the highest bit first. -/
def pick (b3 b2 b1 b0 : BitVec 1) : EReal :=
  Scalar.select b3
    (Scalar.select b2
      (Scalar.select b1 (Scalar.select b0 1 (lit 1060705203#32)) (Scalar.select b0 (lit 1058015147#32) (lit 1054975160#32)))
      (Scalar.select b1 (Scalar.select b0 (lit 1051525946#32) (lit 1048315101#32)) (Scalar.select b0 (lit 1042598627#32) (lit 1034091263#32))))
    (Scalar.select b2
      (Scalar.select b1 (Scalar.select b0 0 (lit 3183114353#32)) (Scalar.select b0 (lit 3191682367#32) (lit 3197215309#32)))
      (Scalar.select b1 (Scalar.select b0 (lit 3200922272#32) (lit 3204868912#32)) (Scalar.select b0 (lit 3207739825#32) (lit 3212836864#32))))

/-- The level of the code in a byte, by the four lowest bits. -/
def decode (u : BitVec 8) : EReal :=
  pick (IntOp.cmpi .ne (IntOp.andi (u.signExtend 32) 8#32) 0#32) (IntOp.cmpi .ne (IntOp.andi (u.signExtend 32) 4#32) 0#32)
    (IntOp.cmpi .ne (IntOp.andi (u.signExtend 32) 2#32) 0#32) (IntOp.cmpi .ne (IntOp.andi (u.signExtend 32) 1#32) 0#32)

/-- The bits of 1.0 are the number 1. -/
theorem lit_one : lit 1065353216#32 = 1 := by simp [Ideal.ofBits, Ideal.ieee]

/-- The bits of 0.0 are the number 0. -/
theorem lit_zero : lit 0#32 = 0 := by simp [Ideal.ofBits, Ideal.ieee]

/-- The byte of a code decodes to its level. -/
theorem decode_code (n : Fin 16) : decode ((BitVec.ofNat 32 n.val).setWidth 8) = ((level n : ℝ) : EReal) := by
  rw [← lit_level]
  have h1 := lit_one
  have h0 := lit_zero
  fin_cases n <;> simp [decode, pick, levelBits, Scalar.select, IntOp.andi, IntOp.cmpi]

/-- The product of six pieces on the left with six pieces on the right, where the second and the third piece of either
    factor vanish, is the plain product. -/
theorem cat_sum_of {n N : Nat} (hN : N = 6 * n) (f0 f1 f2 g0 g1 g2 : Fin n → EReal) (hf1 : ∀ k, f1 k = 0) (hf2 : ∀ k, f2 k = 0)
    (hg1 : ∀ k, g1 k = 0) (hg2 : ∀ k, g2 k = 0) :
    (∑ x : Fin N,
        (if h : x.val < n then f0 ⟨x.val, h⟩
          else if h : x.val - n < n then f0 ⟨x.val - n, h⟩
          else if h : x.val - n - n < n then f1 ⟨x.val - n - n, h⟩
          else if h : x.val - n - n - n < n then f0 ⟨x.val - n - n - n, h⟩
          else if h : x.val - n - n - n - n < n then f1 ⟨x.val - n - n - n - n, h⟩
          else f2 ⟨x.val - n - n - n - n - n, by have := x.isLt; omega⟩) *
        (if h : x.val < n then g0 ⟨x.val, h⟩
          else if h : x.val - n < n then g1 ⟨x.val - n, h⟩
          else if h : x.val - n - n < n then g0 ⟨x.val - n - n, h⟩
          else if h : x.val - n - n - n < n then g2 ⟨x.val - n - n - n, h⟩
          else if h : x.val - n - n - n - n < n then g1 ⟨x.val - n - n - n - n, h⟩
          else g0 ⟨x.val - n - n - n - n - n, by have := x.isLt; omega⟩)) = ∑ k, f0 k * g0 k := by
  refine (Fintype.sum_of_injective (Fin.castLE (by omega)) (Fin.castLE_injective _) _ _ (fun x hx => ?_) (fun k => ?_)).symm
  · have hx' : ¬ x.val < n := fun h => hx ⟨⟨x.val, h⟩, rfl⟩
    rw [dif_neg hx', dif_neg hx']
    simp only [hf1, hf2, hg1, hg2]
    split_ifs <;> simp
  · simp

end Cert.Nf4
-- ==== Proof.Value.Spec.lean ====
module

public import proofs.«01_k».proof.Proof.Value.Level

/-! The quantised scales: the greatest scale of a row over 127, the scales' own codes, and what is left of the differences after
    the decoded codes times the decoded scales are taken away. -/

@[expose] public section

set_option maxRecDepth 16384

noncomputable section

namespace Cert.Nf4

open Idealize.ShloMosaic

/-- The greatest of the scales of row `s`, over 127. -/
def top (v : Fin 2 → Fin 18432 → Fin 512 → EReal) (z : Fin 2) (s : Fin 512) : EReal :=
  Ideal.div (Finset.fold max (lit 4286578688#32) (fun n => scale v z n s) Finset.univ) (lit 1123942400#32)

/-- The code of a scale, rounded and clipped to `[-127, 127]`. -/
def qcode (v : Fin 2 → Fin 18432 → Fin 512 → EReal) (z : Fin 2) (n : Fin 288) (s : Fin 512) : EReal :=
  min (((127#32).toInt : ℝ) : EReal)
    (max (((4294967169#32).toInt : ℝ) : EReal) (Ideal.liftRound Ideal.roundHalfEven (Ideal.div (scale v z n s) (top v z s))))

/-- The decoded scale. -/
def bscale (v : Fin 2 → Fin 18432 → Fin 512 → EReal) (z : Fin 2) (n : Fin 288) (s : Fin 512) : EReal := qcode v z n s * top v z s

/-- A maximum of finitely many reals, at least one, is a real. -/
theorem fold_max_real {n : Nat} (f : Fin (n + 1) → EReal) (hf : ∀ k, ∃ r : ℝ, f k = r) :
    ∃ r : ℝ, Finset.fold max (lit 4286578688#32) f Finset.univ = r := by
  rw [lit_bot]
  have e : Finset.fold max ⊥ f Finset.univ = Finset.univ.sup f := rfl
  obtain ⟨k, -, hk⟩ := Finset.exists_mem_eq_sup Finset.univ Finset.univ_nonempty f
  rw [e, hk]
  exact hf k

/-- The scale of a block of reals is a real. -/
theorem scale_real (v : Fin 2 → Fin 18432 → Fin 512 → ℝ) (z : Fin 2) (n : Fin 288) (s : Fin 512) :
    ∃ r : ℝ, scale (fun z d s => ((v z d s : ℝ) : EReal)) z n s = r := by
  unfold scale amaxOf
  split
  · exact ⟨1, rfl⟩
  · refine fold_max_real (n := 63) _ fun k => ⟨max (v z ⟨n.val * 64 + k.val, by omega⟩ s) (-(v z ⟨n.val * 64 + k.val, by omega⟩ s)), ?_⟩
    exact (EReal.coe_strictMono.monotone.map_max).symm

/-- The bits of 127.0 are the number 127. -/
theorem lit_127 : lit 1123942400#32 = ((127 : ℝ) : EReal) := by
  simp [Ideal.ofBits, Ideal.ieee]
  simp only [← EReal.coe_mul, EReal.coe_eq_coe_iff]
  norm_num

/-- The scale of the scales is a real. -/
theorem top_real (v : Fin 2 → Fin 18432 → Fin 512 → ℝ) (z : Fin 2) (s : Fin 512) :
    ∃ r : ℝ, top (fun z d s => ((v z d s : ℝ) : EReal)) z s = r := by
  obtain ⟨r, hr⟩ := fold_max_real (n := 287) (fun n => scale (fun z d s => ((v z d s : ℝ) : EReal)) z n s) fun n => scale_real v z n s
  unfold top
  rw [hr, lit_127]
  refine ⟨r / 127, ?_⟩
  rw [Ideal.div, if_neg (by simp)]
  norm_num
  rfl

/-- The rounded and clipped quotient is a real, whatever the differences. -/
theorem qcode_real (v : Fin 2 → Fin 18432 → Fin 512 → EReal) (z : Fin 2) (n : Fin 288) (s : Fin 512) : ∃ r : ℝ, qcode v z n s = r := by
  unfold qcode
  generalize Ideal.liftRound _ _ = x
  refine ⟨(min (((127#32).toInt : ℝ) : EReal) (max (((4294967169#32).toInt : ℝ) : EReal) x)).toReal, (EReal.coe_toReal ?_ ?_).symm⟩
  · exact ne_of_lt (lt_of_le_of_lt (min_le_left _ _) (EReal.coe_lt_top _))
  · exact ne_of_gt (lt_min (EReal.bot_lt_coe _) (lt_of_lt_of_le (EReal.bot_lt_coe _) (le_max_left _ _)))

/-- The decoded scale as a real. -/
def bscaleR (v : Fin 2 → Fin 18432 → Fin 512 → ℝ) (z : Fin 2) (n : Fin 288) (s : Fin 512) : ℝ :=
  (bscale (fun z d s => ((v z d s : ℝ) : EReal)) z n s).toReal

/-- The rounded scale is a real, its own real part. -/
theorem bscale_coe (v : Fin 2 → Fin 18432 → Fin 512 → ℝ) (z : Fin 2) (n : Fin 288) (s : Fin 512) :
    bscale (fun z d s => ((v z d s : ℝ) : EReal)) z n s = ((bscaleR v z n s : ℝ) : EReal) := by
  obtain ⟨p, hp⟩ := top_real v z s
  obtain ⟨q, hq⟩ := qcode_real (fun z d s => ((v z d s : ℝ) : EReal)) z n s
  unfold bscaleR bscale
  rw [hp, hq, ← EReal.coe_mul, EReal.toReal_coe]

/-- The decoded value of a difference. -/
def valueR (v : Fin 2 → Fin 18432 → Fin 512 → ℝ) (z : Fin 2) (d : Fin 18432) (s : Fin 512) : ℝ :=
  level (code (scaled (fun z d s => ((v z d s : ℝ) : EReal)) z d s)) * bscaleR v z ⟨d.val / 64, by omega⟩ s

end Cert.Nf4
-- ==== Proof.Value.Words.lean ====
module

public import proofs.«01_k».proof.Proof.Value.Spec

/-! Words and single numbers as the reference computes them: the code by counting, the byte of two codes, the bits of a
    code, the rounded scale as a word, the greatest of 64 magnitudes from two halves. -/

@[expose] public section

set_option maxRecDepth 16384

noncomputable section

namespace Cert.Nf4

open Idealize.ShloMosaic

/-- The number of thresholds below `y`, counted in words. -/
def tally (y : EReal) : BitVec 32 :=
  ([3210288344#32, 3206304368#32, 3203105920#32, 3199068790#32, 3195026668#32, 3188537532#32,
    3174725745#32, 1025702655#32, 1039550562#32, 1045456864#32, 1049985748#32, 1053250553#32, 1056992516#32, 1059360175#32,
    1063029210#32] : List (BitVec 32)).foldl
    (fun t m => IntOp.addi t ((FloatOps.cmpf (F := Ideal) (φ := .f32) .ogt y (FloatOps.ofBits (F := Ideal) .f32 m)).setWidth 32)) 0#32

/-- A comparison as a word. -/
theorem ogt_word (y : EReal) (m : BitVec 32) :
    (FloatOps.cmpf (F := Ideal) (φ := .f32) .ogt y (FloatOps.ofBits (F := Ideal) .f32 m)).setWidth 32 = BitVec.ofNat 32 (if lit m < y then 1 else 0) := by
  show (Ideal.cmp .ogt y (lit m)).setWidth 32 = _
  by_cases h : lit m < y <;> simp [Ideal.cmp, h]

/-- Counting in words gives the word of the code. -/
theorem tally_eq (y : EReal) : tally y = codeWord y := by
  simp only [tally, List.foldl, ogt_word, IntOp.addi, codeWord, code, Fin.sum_univ_succ, Fin.sum_univ_zero, BitVec.ofNat_add]
  simp only [midBits, Fin.isValue, Fin.reduceSucc, Matrix.cons_val, Fin.succ_zero_eq_one, BitVec.zero_add, BitVec.add_zero, BitVec.add_assoc]
  rfl

/-- The byte of two codes. -/
theorem byte_eq (x y : EReal) :
    (IntOp.ori (codeWord x) (IntOp.shli ArithUnit.host (codeWord y) 4#32)).setWidth 8 = (pairWord (codeWord x) (codeWord y)).setWidth 8 := by
  unfold codeWord
  generalize code x = p
  generalize code y = q
  revert p q
  decide +kernel

/-- The first code of a byte. -/
theorem byte_lo (x y : EReal) :
    IntOp.andi (((pairWord (codeWord x) (codeWord y)).setWidth 8).setWidth 32) 15#32 = codeWord x := by
  unfold codeWord
  generalize code x = p
  generalize code y = q
  revert p q
  decide +kernel

/-- The second code of a byte. -/
theorem byte_hi (x y : EReal) :
    IntOp.shrsi ArithUnit.host (((pairWord (codeWord x) (codeWord y)).setWidth 8).setWidth 32) 4#32 = codeWord y := by
  unfold codeWord
  generalize code x = p
  generalize code y = q
  revert p q
  decide +kernel

/-- A bit of a word. -/
def bit (c k : BitVec 32) : BitVec 1 := IntOp.cmpi .eq (IntOp.andi (IntOp.shrsi ArithUnit.host c k) 1#32) 1#32

/-- The level chosen by the four bits of a code. -/
theorem pick_code (x : EReal) :
    pick (bit (codeWord x) 3#32) (bit (codeWord x) 2#32) (bit (codeWord x) 1#32) (bit (codeWord x) 0#32) = ((level (code x) : ℝ) : EReal) := by
  rw [← lit_level]
  unfold codeWord
  have h1 := lit_one
  have h0 := lit_zero
  generalize code x = n
  fin_cases n <;> simp [bit, pick, levelBits, Scalar.select, IntOp.andi, IntOp.cmpi, IntOp.shrsi]

/-- A rounded scale is an integer between -127 and 127. -/
theorem qcode_int (v : Fin 2 → Fin 18432 → Fin 512 → EReal) (z : Fin 2) (n : Fin 288) (s : Fin 512) :
    ∃ k : ℤ, -127 ≤ k ∧ k ≤ 127 ∧ qcode v z n s = (((k : ℤ) : ℝ) : EReal) := by
  unfold qcode
  have e1 : (127#32).toInt = 127 := by decide
  have e2 : (4294967169#32).toInt = -127 := by decide
  rw [e1, e2]
  generalize Ideal.div (scale v z n s) (top v z s) = t
  have hm : ∀ p q : ℤ, max ((p : ℝ) : EReal) ((q : ℝ) : EReal) = ((max p q : ℤ) : ℝ) := fun p q => by
    rw [Int.cast_max]; exact (EReal.coe_strictMono.monotone.map_max).symm
  have hn : ∀ p q : ℤ, min ((p : ℝ) : EReal) ((q : ℝ) : EReal) = ((min p q : ℤ) : ℝ) := fun p q => by
    rw [Int.cast_min]; exact (EReal.coe_strictMono.monotone.map_min).symm
  induction t with
  | bot => exact ⟨-127, by omega, by omega, by
      show min _ (max _ ⊥) = _
      rw [max_eq_left bot_le]
      exact hn 127 (-127)⟩
  | top => exact ⟨127, by omega, by omega, by
      show min _ (max _ ⊤) = _
      rw [max_eq_right le_top, min_eq_left le_top]⟩
  | coe r => exact ⟨min 127 (max (-127) (Ideal.roundHalfEven r)), by omega, by omega, by rw [← hn, ← hm]; rfl⟩

/-- A small integer as a word of 32 bits. -/
theorem fptosi32_int (k : ℤ) (h : -127 ≤ k) (h' : k ≤ 127) :
    FloatOps.fptosi (F := Ideal) (φ := .f32) 32 (((k : ℤ) : ℝ) : EReal) = BitVec.ofInt 32 k := by
  have e : Ideal.toIntClamped (-2147483648) 2147483647 (((k : ℤ) : ℝ) : EReal) = max (-2147483648) (min 2147483647 (if (0 : ℝ) ≤ (k : ℝ) then ⌊(k : ℝ)⌋ else ⌈(k : ℝ)⌉)) := rfl
  rw [Int.floor_intCast, Int.ceil_intCast, ite_self] at e
  show BitVec.ofInt 32 (Ideal.toIntClamped (-2147483648) 2147483647 (((k : ℤ) : ℝ) : EReal)) = _
  rw [e]
  congr 1
  omega

/-- A small integer as a byte. -/
theorem fptosi8_int (k : ℤ) (h : -127 ≤ k) (h' : k ≤ 127) :
    FloatOps.fptosi (F := Ideal) (φ := .f32) 8 (((k : ℤ) : ℝ) : EReal) = BitVec.ofInt 8 k := by
  have e : Ideal.toIntClamped (-128) 127 (((k : ℤ) : ℝ) : EReal) = max (-128) (min 127 (if (0 : ℝ) ≤ (k : ℝ) then ⌊(k : ℝ)⌋ else ⌈(k : ℝ)⌉)) := rfl
  rw [Int.floor_intCast, Int.ceil_intCast, ite_self] at e
  show BitVec.ofInt 8 (Ideal.toIntClamped (-128) 127 (((k : ℤ) : ℝ) : EReal)) = _
  rw [e]
  congr 1
  omega

/-- The lower byte of a small integer. -/
theorem ofInt_byte (k : ℤ) : (BitVec.ofInt 32 k).setWidth 8 = BitVec.ofInt 8 k := by
  apply BitVec.eq_of_toNat_eq
  simp only [BitVec.toNat_setWidth, BitVec.toNat_ofInt]
  omega

/-- A rounded scale, cut to a byte by way of a word. -/
theorem qcode_byte (v : Fin 2 → Fin 18432 → Fin 512 → EReal) (z : Fin 2) (n : Fin 288) (s : Fin 512) :
    (FloatOps.fptosi (F := Ideal) (φ := .f32) 32 (qcode v z n s)).setWidth 8 = FloatOps.fptosi (F := Ideal) (φ := .f32) 8 (qcode v z n s) := by
  obtain ⟨k, h, h', e⟩ := qcode_int v z n s
  rw [e, fptosi32_int k h h', fptosi8_int k h h', ofInt_byte]

/-- The byte of a rounded scale, read back, is the rounded scale. -/
theorem qcode_back (v : Fin 2 → Fin 18432 → Fin 512 → EReal) (z : Fin 2) (n : Fin 288) (s : Fin 512) :
    FloatOps.sitofp (F := Ideal) .f32 ((FloatOps.fptosi (F := Ideal) (φ := .f32) 8 (qcode v z n s)).signExtend 32) = qcode v z n s := by
  obtain ⟨k, h, h', e⟩ := qcode_int v z n s
  rw [e, fptosi8_int k h h']
  show ((((BitVec.ofInt 8 k).signExtend 32).toInt : ℝ) : EReal) = _
  rw [BitVec.toInt_signExtend_of_le (by omega), BitVec.toInt_ofInt, Int.bmod_eq_of_le (by norm_num; omega) (by norm_num; omega)]

/-- The greatest of 64 values is the greater of the greatest of those with an even and of those with an odd index. -/
theorem fold_pairs (f g : Fin 32 → EReal) (h : Fin 64 → EReal) (hf : ∀ j : Fin 32, h ⟨2 * j.val, by omega⟩ = f j)
    (hg : ∀ j : Fin 32, h ⟨2 * j.val + 1, by omega⟩ = g j) :
    max (Finset.fold max (lit 4286578688#32) f Finset.univ) (Finset.fold max (lit 4286578688#32) g Finset.univ)
      = Finset.fold max (lit 4286578688#32) h Finset.univ := by
  rw [lit_bot]
  have e : ∀ {n : Nat} (f : Fin n → EReal), Finset.fold max ⊥ f Finset.univ = Finset.univ.sup f := fun f => rfl
  rw [e, e, e]
  refine le_antisymm (max_le ?_ ?_) ?_
  · exact Finset.sup_le fun j _ => (hf j) ▸ Finset.le_sup (f := h) (Finset.mem_univ _)
  · exact Finset.sup_le fun j _ => (hg j) ▸ Finset.le_sup (f := h) (Finset.mem_univ _)
  · refine Finset.sup_le fun d _ => ?_
    rcases Nat.even_or_odd' d.val with ⟨j, hj | hj⟩
    · have hd : d = ⟨2 * (⟨j, by omega⟩ : Fin 32).val, by simp; omega⟩ := Fin.ext hj
      rw [hd, hf]
      exact le_max_of_le_left (Finset.le_sup (f := f) (Finset.mem_univ _))
    · have hd : d = ⟨2 * (⟨j, by omega⟩ : Fin 32).val + 1, by simp; omega⟩ := Fin.ext hj
      rw [hd, hg]
      exact le_max_of_le_right (Finset.le_sup (f := g) (Finset.mem_univ _))

/-- A number, replaced by one where it is zero. -/
theorem amax_select (x : EReal) :
    Scalar.select (FloatOps.cmpf (F := Ideal) (φ := .f32) .oeq x (FloatOps.ofBits (F := Ideal) .f32 0#32)) (FloatOps.ofBits (F := Ideal) .f32 1065353216#32) x
      = if x = 0 then 1 else x := by
  show Scalar.select (Ideal.cmp .oeq x (lit 0#32)) (lit 1065353216#32) x = _
  rw [lit_zero, lit_one]
  by_cases h : x = 0 <;> simp [Ideal.cmp, Scalar.select, h]

/-- A scale is not zero. -/
theorem scale_ne (v : Fin 2 → Fin 18432 → Fin 512 → EReal) (z : Fin 2) (n : Fin 288) (s : Fin 512) : scale v z n s ≠ 0 := by
  unfold scale amaxOf
  split
  · exact one_ne_zero
  · assumption

/-- Dividing by a scale is multiplying by its reciprocal. -/
theorem div_scale (v : Fin 2 → Fin 18432 → Fin 512 → EReal) (z : Fin 2) (n : Fin 288) (s : Fin 512) (x : EReal) :
    Ideal.div x (scale v z n s) = x * Ideal.div 1 (scale v z n s) := by
  rw [Ideal.div, Ideal.div, if_neg (scale_ne v z n s), if_neg (scale_ne v z n s), one_mul]

end Cert.Nf4
-- ==== Proof.Value.Ref.lean ====
module

public import proofs.«01_k».proof.Proof.Gen.ReferenceIdeal.Read
public import proofs.«01_k».proof.Proof.Value.Words
public import Idealize.ShloMosaic.Lib.ReduceAll

/-! The six results of the reference, from real arguments, in closed form. -/

@[expose] public section

set_option maxRecDepth 16384

noncomputable section

namespace Cert.ReferenceIdeal.Read

open Cert.ReferenceIdeal Idealize.ShloMosaic Idealize.ShloMosaic.TcCoe Idealize.SL.Sem
open Cert.Nf4

variable {w : Fin 2 → Fin 512 → Fin 18432 → ℝ} {a : Fin 2 → Fin 512 → Fin 640 → ℝ} {b : Fin 2 → Fin 18432 → Fin 640 → ℝ}
variable (x0 : FVec Ideal S2x512x18432 .bf16) (x1 : FVec Ideal S2x512x640 .f32) (x2 : FVec Ideal S2x18432x640 .f32)

/-- The arguments are reals. -/
structure Holds (x0 : FVec Ideal S2x512x18432 .bf16) (x1 : FVec Ideal S2x512x640 .f32) (x2 : FVec Ideal S2x18432x640 .f32)
    (w : Fin 2 → Fin 512 → Fin 18432 → ℝ) (a : Fin 2 → Fin 512 → Fin 640 → ℝ) (b : Fin 2 → Fin 18432 → Fin 640 → ℝ) : Prop where
  hw : ∀ z s d, x0 (ix3 z s d) = ((w z s d : ℝ) : EReal)
  ha : ∀ z s k, x1 (ix3 z s k) = ((a z s k : ℝ) : EReal)
  hb : ∀ z d k, x2 (ix3 z d k) = ((b z d k : ℝ) : EReal)

variable {x0 x1 x2}

/-- The differences of the even columns. -/
theorem e8 (H : Holds x0 x1 x2 w a b) (z : Fin 2) (s : Fin 512) (h : Fin 9216) :
    val_main_v8 (F := Ideal) x0 x1 x2 (ix3 z s h) = ((diff w a b z ⟨2 * h.val, by omega⟩ s : ℝ) : EReal) := by
  pointwise [val_main_v8, val_main_v1, val_main_v0, val_main_v7, val_main_v5, val_main_v4]
  simp only [H.hw, H.ha, H.hb]
  rw [diff, EReal.coe_sub, coe_sum]
  refine congrArg₂ (· - ·) rfl (Finset.sum_congr rfl fun k _ => ?_)
  rw [← EReal.coe_mul, mul_comm]
  refine congrArg₂ (fun (d : Fin 18432) (q : Fin 640) => ((b z d q * a z s k : ℝ) : EReal)) ?_ ?_ <;> apply Fin.ext
  · show h.val * 2 + k.val / 640 = 2 * h.val
    omega
  · show k.val % 640 = k.val
    omega

/-- The differences of the odd columns. -/
theorem e10 (H : Holds x0 x1 x2 w a b) (z : Fin 2) (s : Fin 512) (h : Fin 9216) :
    val_main_v10 (F := Ideal) x0 x1 x2 (ix3 z s h) = ((diff w a b z ⟨2 * h.val + 1, by omega⟩ s : ℝ) : EReal) := by
  pointwise [val_main_v10, val_main_v3, val_main_v2, val_main_v9, val_main_v6, val_main_v4]
  simp only [H.hw, H.ha, H.hb]
  rw [diff, EReal.coe_sub, coe_sum]
  refine congrArg₂ (· - ·) (congrArg (fun d => ((w z s d : ℝ) : EReal)) (Fin.ext (by show 1 + 2 * h.val = 2 * h.val + 1; omega))) (Finset.sum_congr rfl fun k _ => ?_)
  rw [← EReal.coe_mul, mul_comm]
  exact congrArg (fun d : Fin 18432 => ((b z d k * a z s k : ℝ) : EReal)) (Fin.ext (by show h.val * 2 + (640 + k.val) / 640 = 2 * h.val + 1; omega))

variable {v : Fin 2 → Fin 18432 → Fin 512 → EReal}

/-- The differences of the even and of the odd columns are those of `v`. -/
structure Diffs (x0 : FVec Ideal S2x512x18432 .bf16) (x1 : FVec Ideal S2x512x640 .f32) (x2 : FVec Ideal S2x18432x640 .f32)
    (v : Fin 2 → Fin 18432 → Fin 512 → EReal) : Prop where
  h8 : ∀ z s (h : Fin 9216), val_main_v8 (F := Ideal) x0 x1 x2 (ix3 z s h) = v z ⟨2 * h.val, by omega⟩ s
  h10 : ∀ z s (h : Fin 9216), val_main_v10 (F := Ideal) x0 x1 x2 (ix3 z s h) = v z ⟨2 * h.val + 1, by omega⟩ s

/-- The differences of real arguments. -/
theorem diffs (H : Holds x0 x1 x2 w a b) : Diffs x0 x1 x2 (fun z d s => ((diff w a b z d s : ℝ) : EReal)) :=
  ⟨fun z s h => e8 H z s h, fun z s h => e10 H z s h⟩

/-- The scales. -/
theorem e20 (D : Diffs x0 x1 x2 v) (z : Fin 2) (s : Fin 512) (n : Fin 288) : val_main_v20 (F := Ideal) x0 x1 x2 (ix3 z s n) = scale v z n s := by
  have e14 : val_main_v14 (F := Ideal) x0 x1 x2 (ix3 z s n) = Finset.fold max (lit 4286578688#32) (fun j : Fin 32 => FloatOps.absf (F := Ideal) (φ := .f32) (v z ⟨2 * (n.val * 32 + j.val), by omega⟩ s)) Finset.univ := by
    pointwise [val_main_v14, val_main_cst, val_main_v13, val_main_v11]
    refine congrArg (fun f => Finset.fold max _ f Finset.univ) (funext fun j => ?_)
    rw [D.h8]
  have e16 : val_main_v16 (F := Ideal) x0 x1 x2 (ix3 z s n) = Finset.fold max (lit 4286578688#32) (fun j : Fin 32 => FloatOps.absf (F := Ideal) (φ := .f32) (v z ⟨2 * (n.val * 32 + j.val) + 1, by omega⟩ s)) Finset.univ := by
    pointwise [val_main_v16, val_main_cst_0, val_main_v15, val_main_v12]
    refine congrArg (fun f => Finset.fold max _ f Finset.univ) (funext fun j => ?_)
    rw [D.h10]
  have em : FloatOps.maximumf (F := Ideal) (φ := .f32) (val_main_v14 (F := Ideal) x0 x1 x2 (ix3 z s n)) (val_main_v16 (F := Ideal) x0 x1 x2 (ix3 z s n))
      = Finset.fold max (lit 4286578688#32) (fun k : Fin 64 => FloatOps.absf (F := Ideal) (φ := .f32) (v z ⟨n.val * 64 + k.val, by omega⟩ s)) Finset.univ := by
    rw [e14, e16]
    refine fold_pairs _ _ _ (fun j => ?_) (fun j => ?_)
    · exact congrArg (fun d => FloatOps.absf (F := Ideal) (φ := .f32) (v z d s)) (Fin.ext (by show n.val * 64 + 2 * j.val = 2 * (n.val * 32 + j.val); omega))
    · exact congrArg (fun d => FloatOps.absf (F := Ideal) (φ := .f32) (v z d s)) (Fin.ext (by show n.val * 64 + (2 * j.val + 1) = 2 * (n.val * 32 + j.val) + 1; omega))
  rw [val_main_v20_apply, val_main_v19_apply, val_main_v17_apply, val_main_v18_apply, val_main_cst_1_apply, val_main_call0_v0_apply, val_main_cst_2_apply]
  rw [em]
  unfold scale amaxOf
  exact amax_select _

/-- The codes of the even columns are counted. -/
theorem e84 (i : S2x512x288x32.Idx) : val_main_v84 (F := Ideal) x0 x1 x2 i = codeWord (val_main_v23 (F := Ideal) x0 x1 x2 i) := by
  rw [val_main_v84_apply, val_main_v80_apply, val_main_v76_apply, val_main_v72_apply, val_main_v68_apply, val_main_v64_apply, val_main_v60_apply, val_main_v56_apply, val_main_v52_apply, val_main_v48_apply, val_main_v44_apply, val_main_v40_apply, val_main_v36_apply, val_main_v32_apply, val_main_v28_apply, val_main_v24_apply, val_main_c_apply, val_main_v27_apply, val_main_v26_apply, val_main_v25_apply, val_main_cst_3_apply, val_main_v31_apply, val_main_v30_apply, val_main_v29_apply, val_main_cst_4_apply, val_main_v35_apply, val_main_v34_apply, val_main_v33_apply, val_main_cst_5_apply, val_main_v39_apply, val_main_v38_apply, val_main_v37_apply, val_main_cst_6_apply, val_main_v43_apply, val_main_v42_apply, val_main_v41_apply, val_main_cst_7_apply, val_main_v47_apply, val_main_v46_apply, val_main_v45_apply, val_main_cst_8_apply, val_main_v51_apply, val_main_v50_apply, val_main_v49_apply, val_main_cst_9_apply, val_main_v55_apply, val_main_v54_apply, val_main_v53_apply, val_main_cst_10_apply, val_main_v59_apply, val_main_v58_apply, val_main_v57_apply, val_main_cst_11_apply, val_main_v63_apply, val_main_v62_apply, val_main_v61_apply, val_main_cst_12_apply, val_main_v67_apply, val_main_v66_apply, val_main_v65_apply, val_main_cst_13_apply, val_main_v71_apply, val_main_v70_apply, val_main_v69_apply, val_main_cst_14_apply, val_main_v75_apply, val_main_v74_apply, val_main_v73_apply, val_main_cst_15_apply, val_main_v79_apply, val_main_v78_apply, val_main_v77_apply, val_main_cst_16_apply, val_main_v83_apply, val_main_v82_apply, val_main_v81_apply, val_main_cst_17_apply]
  generalize val_main_v23 (F := Ideal) x0 x1 x2 i = y
  have key := tally_eq y
  simp only [tally, List.foldl] at key
  exact key

/-- The codes of the odd columns are counted. -/
theorem e149 (i : S2x512x288x32.Idx) : val_main_v149 (F := Ideal) x0 x1 x2 i = codeWord (val_main_v88 (F := Ideal) x0 x1 x2 i) := by
  rw [val_main_v149_apply, val_main_v145_apply, val_main_v141_apply, val_main_v137_apply, val_main_v133_apply, val_main_v129_apply, val_main_v125_apply, val_main_v121_apply, val_main_v117_apply, val_main_v113_apply, val_main_v109_apply, val_main_v105_apply, val_main_v101_apply, val_main_v97_apply, val_main_v93_apply, val_main_v89_apply, val_main_c_18_apply, val_main_v92_apply, val_main_v91_apply, val_main_v90_apply, val_main_cst_19_apply, val_main_v96_apply, val_main_v95_apply, val_main_v94_apply, val_main_cst_20_apply, val_main_v100_apply, val_main_v99_apply, val_main_v98_apply, val_main_cst_21_apply, val_main_v104_apply, val_main_v103_apply, val_main_v102_apply, val_main_cst_22_apply, val_main_v108_apply, val_main_v107_apply, val_main_v106_apply, val_main_cst_23_apply, val_main_v112_apply, val_main_v111_apply, val_main_v110_apply, val_main_cst_24_apply, val_main_v116_apply, val_main_v115_apply, val_main_v114_apply, val_main_cst_25_apply, val_main_v120_apply, val_main_v119_apply, val_main_v118_apply, val_main_cst_26_apply, val_main_v124_apply, val_main_v123_apply, val_main_v122_apply, val_main_cst_27_apply, val_main_v128_apply, val_main_v127_apply, val_main_v126_apply, val_main_cst_28_apply, val_main_v132_apply, val_main_v131_apply, val_main_v130_apply, val_main_cst_29_apply, val_main_v136_apply, val_main_v135_apply, val_main_v134_apply, val_main_cst_30_apply, val_main_v140_apply, val_main_v139_apply, val_main_v138_apply, val_main_cst_31_apply, val_main_v144_apply, val_main_v143_apply, val_main_v142_apply, val_main_cst_32_apply, val_main_v148_apply, val_main_v147_apply, val_main_v146_apply, val_main_cst_33_apply]
  generalize val_main_v88 (F := Ideal) x0 x1 x2 i = y
  have key := tally_eq y
  simp only [tally, List.foldl] at key
  exact key

/-- The scaled differences of the even columns. -/
theorem e23 (D : Diffs x0 x1 x2 v) (z : Fin 2) (s : Fin 512) (n : Fin 288) (j : Fin 32) :
    val_main_v23 (F := Ideal) x0 x1 x2 (ix4 z s n j) = scaled v z ⟨2 * (n.val * 32 + j.val), by omega⟩ s := by
  have hl : val_main_v11 (F := Ideal) x0 x1 x2 (ix4 z s n j) = v z ⟨2 * (n.val * 32 + j.val), by omega⟩ s := by
    pointwise [val_main_v11]
    rw [D.h8]
  have hr : val_main_v22 (F := Ideal) x0 x1 x2 (ix4 z s n j) = scale v z n s := by
    pointwise [val_main_v22, val_main_v21]
    rw [e20 D]
  have hn : n = ⟨(⟨2 * (n.val * 32 + j.val), by omega⟩ : Fin 18432).val / 64, by omega⟩ := Fin.ext (by show n.val = (2 * (n.val * 32 + j.val)) / 64; omega)
  rw [val_main_v23_apply, hl, hr]
  refine (div_scale v z n s _).trans ?_
  unfold scaled
  rw [← hn]

/-- The scaled differences of the odd columns. -/
theorem e88 (D : Diffs x0 x1 x2 v) (z : Fin 2) (s : Fin 512) (n : Fin 288) (j : Fin 32) :
    val_main_v88 (F := Ideal) x0 x1 x2 (ix4 z s n j) = scaled v z ⟨2 * (n.val * 32 + j.val) + 1, by omega⟩ s := by
  have hl : val_main_v12 (F := Ideal) x0 x1 x2 (ix4 z s n j) = v z ⟨2 * (n.val * 32 + j.val) + 1, by omega⟩ s := by
    pointwise [val_main_v12]
    rw [D.h10]
  have hr : val_main_v87 (F := Ideal) x0 x1 x2 (ix4 z s n j) = scale v z n s := by
    pointwise [val_main_v87, val_main_v86]
    rw [e20 D]
  have hn : n = ⟨(⟨2 * (n.val * 32 + j.val) + 1, by omega⟩ : Fin 18432).val / 64, by omega⟩ := Fin.ext (by show n.val = (2 * (n.val * 32 + j.val) + 1) / 64; omega)
  rw [val_main_v88_apply, hl, hr]
  refine (div_scale v z n s _).trans ?_
  unfold scaled
  rw [← hn]

/-- The bytes: the codes of a pair of columns. -/
theorem e154 (D : Diffs x0 x1 x2 v) (z : Fin 2) (s : Fin 512) (h : Fin 9216) :
    val_main_v154 (F := Ideal) x0 x1 x2 (ix3 z s h)
      = (pairWord (codeWord (scaled v z ⟨2 * h.val, by omega⟩ s)) (codeWord (scaled v z ⟨2 * h.val + 1, by omega⟩ s))).setWidth 8 := by
  have hh : h = ⟨h.val / 32 * 32 + h.val % 32, by omega⟩ := Fin.ext (by show h.val = h.val / 32 * 32 + h.val % 32; omega)
  pointwise [val_main_v154, val_main_v153, val_main_v152, val_main_v151, val_main_c_34, val_main_v150, val_main_v85]
  rw [e84, e149, e23 D, e88 D, byte_eq]
  have ha : (⟨2 * (h.val / 32 * 32 + h.val % 32), by omega⟩ : Fin 18432) = ⟨2 * h.val, by omega⟩ := Fin.ext (by show 2 * (h.val / 32 * 32 + h.val % 32) = 2 * h.val; omega)
  have hb : (⟨2 * (h.val / 32 * 32 + h.val % 32) + 1, by omega⟩ : Fin 18432) = ⟨2 * h.val + 1, by omega⟩ := Fin.ext (by show 2 * (h.val / 32 * 32 + h.val % 32) + 1 = 2 * h.val + 1; omega)
  exact congrArg₂ (fun d e => (pairWord (codeWord (scaled v z d s)) (codeWord (scaled v z e s))).setWidth 8) ha hb

/-- The code of an even column, read back from its byte. -/
theorem e172 (z : Fin 2) (s : Fin 512) (h : Fin 9216) (x y : EReal)
    (h154 : val_main_v154 (F := Ideal) x0 x1 x2 (ix3 z s h) = (pairWord (codeWord x) (codeWord y)).setWidth 8) :
    val_main_v172 (F := Ideal) x0 x1 x2 (ix3 z s h) = codeWord x := by
  rw [val_main_v172_apply, val_main_v170_apply, val_main_v171_apply, val_main_c_39_apply]
  rw [h154]
  exact byte_lo x y

/-- The code of an odd column, read back from its byte. -/
theorem e175 (z : Fin 2) (s : Fin 512) (h : Fin 9216) (x y : EReal)
    (h154 : val_main_v154 (F := Ideal) x0 x1 x2 (ix3 z s h) = (pairWord (codeWord x) (codeWord y)).setWidth 8) :
    val_main_v175 (F := Ideal) x0 x1 x2 (ix3 z s h) = codeWord y := by
  rw [val_main_v175_apply, val_main_v173_apply, val_main_v174_apply, val_main_c_40_apply]
  rw [h154]
  exact byte_hi x y

/-- The scale of a row of scales. -/
theorem e157 (D : Diffs x0 x1 x2 v) (z : Fin 2) (s : Fin 512) : val_main_v157 (F := Ideal) x0 x1 x2 (ix2 z s) = top v z s := by
  pointwise [val_main_v157, val_main_v156, val_main_v155, val_main_cst_35, val_main_cst_36]
  simp only [e20 D]
  rfl

/-- The scales, divided and rounded. -/
theorem e162 (D : Diffs x0 x1 x2 v) (z : Fin 2) (s : Fin 512) (n : Fin 288) :
    val_main_v162 (F := Ideal) x0 x1 x2 (ix3 z s n) = qcode v z n s := by
  pointwise [val_main_v162, val_main_v161, val_main_v160, val_main_v159, val_main_v158, val_main_c_37, val_main_c_38, val_main_call2_v0, val_main_call2_v1, val_main_call2_v2, val_main_call2_v3, val_main_call2_v4]
  rw [e20 D, e157 D]
  rfl

/-- The rounded scales as bytes. -/
theorem e164 (D : Diffs x0 x1 x2 v) (z : Fin 2) (s : Fin 512) (n : Fin 288) :
    val_main_v164 (F := Ideal) x0 x1 x2 (ix3 z s n) = FloatOps.fptosi (F := Ideal) (φ := .f32) 8 (qcode v z n s) := by
  rw [val_main_v164_apply, val_main_v163_apply, e162 D]
  exact qcode_byte v z n s

/-- The scales, read back from their bytes. -/
theorem e169 (D : Diffs x0 x1 x2 v) (z : Fin 2) (s : Fin 512) (n : Fin 288) :
    val_main_v169 (F := Ideal) x0 x1 x2 (ix3 z s n) = bscale v z n s := by
  have h168 : val_main_v168 (F := Ideal) x0 x1 x2 (ix3 z s n) = top v z s := by
    pointwise [val_main_v168, val_main_v167]
    rw [e157 D]
  rw [val_main_v169_apply, val_main_v166_apply, val_main_v165_apply, e164 D, h168, qcode_back]
  rfl

/-- The level of an even column. -/
theorem e214 (i : S2x512x9216.Idx) (y : EReal) (hy : val_main_v172 (F := Ideal) x0 x1 x2 i = codeWord y) :
    val_main_v214 (F := Ideal) x0 x1 x2 i = ((level (code y) : ℝ) : EReal) := by
  simp only [val_main_v214_apply, val_main_v199_apply, val_main_v197_apply, val_main_v195_apply, val_main_v194_apply, val_main_c_50_apply, val_main_v196_apply, val_main_c_51_apply, val_main_v198_apply, val_main_c_52_apply, val_main_v206_apply, val_main_v193_apply, val_main_v191_apply, val_main_v189_apply, val_main_v188_apply, val_main_c_47_apply, val_main_v190_apply, val_main_c_48_apply, val_main_v192_apply, val_main_c_49_apply, val_main_v202_apply, val_main_v187_apply, val_main_v185_apply, val_main_v183_apply, val_main_v182_apply, val_main_c_44_apply, val_main_v184_apply, val_main_c_45_apply, val_main_v186_apply, val_main_c_46_apply, val_main_v200_apply, val_main_v181_apply, val_main_v179_apply, val_main_v177_apply, val_main_v176_apply, val_main_c_41_apply, val_main_v178_apply, val_main_c_42_apply, val_main_v180_apply, val_main_c_43_apply, val_main_call3_v0_apply, val_main_cst_53_apply, val_main_call3_v1_apply, val_main_cst_54_apply, val_main_v201_apply, val_main_call4_v0_apply, val_main_cst_55_apply, val_main_call4_v1_apply, val_main_cst_56_apply, val_main_v205_apply, val_main_v203_apply, val_main_call6_v0_apply, val_main_cst_57_apply, val_main_call6_v1_apply, val_main_cst_58_apply, val_main_v204_apply, val_main_call7_v0_apply, val_main_cst_59_apply, val_main_call7_v1_apply, val_main_cst_60_apply, val_main_v213_apply, val_main_v209_apply, val_main_v207_apply, val_main_call10_v0_apply, val_main_cst_61_apply, val_main_call10_v1_apply, val_main_cst_62_apply, val_main_v208_apply, val_main_call11_v0_apply, val_main_cst_63_apply, val_main_call11_v1_apply, val_main_cst_64_apply, val_main_v212_apply, val_main_v210_apply, val_main_call13_v0_apply, val_main_cst_65_apply, val_main_call13_v1_apply, val_main_cst_66_apply, val_main_v211_apply, val_main_call14_v0_apply, val_main_cst_67_apply, val_main_call14_v1_apply, val_main_cst_68_apply]
  rw [hy, ← pick_code y, pick, ← lit_one, ← lit_zero]
  rfl

/-- The level of an odd column. -/
theorem e259 (i : S2x512x9216.Idx) (y : EReal) (hy : val_main_v175 (F := Ideal) x0 x1 x2 i = codeWord y) :
    val_main_v259 (F := Ideal) x0 x1 x2 i = ((level (code y) : ℝ) : EReal) := by
  simp only [val_main_v259_apply, val_main_v244_apply, val_main_v242_apply, val_main_v240_apply, val_main_v239_apply, val_main_c_78_apply, val_main_v241_apply, val_main_c_79_apply, val_main_v243_apply, val_main_c_80_apply, val_main_v251_apply, val_main_v238_apply, val_main_v236_apply, val_main_v234_apply, val_main_v233_apply, val_main_c_75_apply, val_main_v235_apply, val_main_c_76_apply, val_main_v237_apply, val_main_c_77_apply, val_main_v247_apply, val_main_v232_apply, val_main_v230_apply, val_main_v228_apply, val_main_v227_apply, val_main_c_72_apply, val_main_v229_apply, val_main_c_73_apply, val_main_v231_apply, val_main_c_74_apply, val_main_v245_apply, val_main_v226_apply, val_main_v224_apply, val_main_v222_apply, val_main_v221_apply, val_main_c_69_apply, val_main_v223_apply, val_main_c_70_apply, val_main_v225_apply, val_main_c_71_apply, val_main_call18_v0_apply, val_main_cst_81_apply, val_main_call18_v1_apply, val_main_cst_82_apply, val_main_v246_apply, val_main_call19_v0_apply, val_main_cst_83_apply, val_main_call19_v1_apply, val_main_cst_84_apply, val_main_v250_apply, val_main_v248_apply, val_main_call21_v0_apply, val_main_cst_85_apply, val_main_call21_v1_apply, val_main_cst_86_apply, val_main_v249_apply, val_main_call22_v0_apply, val_main_cst_87_apply, val_main_call22_v1_apply, val_main_cst_88_apply, val_main_v258_apply, val_main_v254_apply, val_main_v252_apply, val_main_call25_v0_apply, val_main_cst_89_apply, val_main_call25_v1_apply, val_main_cst_90_apply, val_main_v253_apply, val_main_call26_v0_apply, val_main_cst_91_apply, val_main_call26_v1_apply, val_main_cst_92_apply, val_main_v257_apply, val_main_v255_apply, val_main_call28_v0_apply, val_main_cst_93_apply, val_main_call28_v1_apply, val_main_cst_94_apply, val_main_v256_apply, val_main_call29_v0_apply, val_main_cst_95_apply, val_main_call29_v1_apply, val_main_cst_96_apply]
  rw [hy, ← pick_code y, pick, ← lit_one, ← lit_zero]
  rfl

/-- What the decoded values leave of the even columns of `w`. -/
theorem e220 (H : Holds x0 x1 x2 w a b) (z : Fin 2) (s : Fin 512) (h : Fin 9216) :
    val_main_v220 (F := Ideal) x0 x1 x2 (ix3 z s h)
      = ((w z s ⟨2 * h.val, by omega⟩ - valueR (diff w a b) z ⟨2 * h.val, by omega⟩ s : ℝ) : EReal) := by
  have hw : val_main_v1 (F := Ideal) x0 (ix3 z s h) = ((w z s ⟨2 * h.val, by omega⟩ : ℝ) : EReal) := by
    pointwise [val_main_v1, val_main_v0]
    rw [H.hw]
  have hs : val_main_v219 (F := Ideal) x0 x1 x2 (ix3 z s h) = val_main_v218 (F := Ideal) x0 x1 x2 (ix4 z s ⟨h.val / 32, by omega⟩ ⟨h.val % 32, by omega⟩) := by
    pointwise [val_main_v219]
  have hl : val_main_v215 (F := Ideal) x0 x1 x2 (ix4 z s ⟨h.val / 32, by omega⟩ ⟨h.val % 32, by omega⟩) = val_main_v214 (F := Ideal) x0 x1 x2 (ix3 z s h) := by
    pointwise [val_main_v215]
  have hr : val_main_v217 (F := Ideal) x0 x1 x2 (ix4 z s ⟨h.val / 32, by omega⟩ ⟨h.val % 32, by omega⟩) = val_main_v169 (F := Ideal) x0 x1 x2 (ix3 z s ⟨h.val / 32, by omega⟩) := by
    pointwise [val_main_v217, val_main_v216]
  have hn : (⟨h.val / 32, by omega⟩ : Fin 288) = ⟨(⟨2 * h.val, by omega⟩ : Fin 18432).val / 64, by omega⟩ := Fin.ext (by show h.val / 32 = (2 * h.val) / 64; omega)
  rw [val_main_v220_apply, hw, hs, val_main_v218_apply, hl, hr, e214 _ _ (e172 z s h _ _ (e154 (diffs H) z s h)), e169 (diffs H), bscale_coe, hn]
  show _ - _ * _ = _
  rw [← EReal.coe_mul, ← EReal.coe_sub]
  rfl

/-- What the decoded values leave of the odd columns of `w`. -/
theorem e265 (H : Holds x0 x1 x2 w a b) (z : Fin 2) (s : Fin 512) (h : Fin 9216) :
    val_main_v265 (F := Ideal) x0 x1 x2 (ix3 z s h)
      = ((w z s ⟨2 * h.val + 1, by omega⟩ - valueR (diff w a b) z ⟨2 * h.val + 1, by omega⟩ s : ℝ) : EReal) := by
  have hw : val_main_v3 (F := Ideal) x0 (ix3 z s h) = ((w z s ⟨2 * h.val + 1, by omega⟩ : ℝ) : EReal) := by
    pointwise [val_main_v3, val_main_v2]
    rw [H.hw]
    exact congrArg (fun d => ((w z s d : ℝ) : EReal)) (Fin.ext (by show 1 + 2 * h.val = 2 * h.val + 1; omega))
  have hs : val_main_v264 (F := Ideal) x0 x1 x2 (ix3 z s h) = val_main_v263 (F := Ideal) x0 x1 x2 (ix4 z s ⟨h.val / 32, by omega⟩ ⟨h.val % 32, by omega⟩) := by
    pointwise [val_main_v264]
  have hl : val_main_v260 (F := Ideal) x0 x1 x2 (ix4 z s ⟨h.val / 32, by omega⟩ ⟨h.val % 32, by omega⟩) = val_main_v259 (F := Ideal) x0 x1 x2 (ix3 z s h) := by
    pointwise [val_main_v260]
  have hr : val_main_v262 (F := Ideal) x0 x1 x2 (ix4 z s ⟨h.val / 32, by omega⟩ ⟨h.val % 32, by omega⟩) = val_main_v169 (F := Ideal) x0 x1 x2 (ix3 z s ⟨h.val / 32, by omega⟩) := by
    pointwise [val_main_v262, val_main_v261]
  have hn : (⟨h.val / 32, by omega⟩ : Fin 288) = ⟨(⟨2 * h.val + 1, by omega⟩ : Fin 18432).val / 64, by omega⟩ := Fin.ext (by show h.val / 32 = (2 * h.val + 1) / 64; omega)
  rw [val_main_v265_apply, hw, hs, val_main_v263_apply, hl, hr, e259 _ _ (e175 z s h _ _ (e154 (diffs H) z s h)), e169 (diffs H), bscale_coe, hn]
  show _ - _ * _ = _
  rw [← EReal.coe_mul, ← EReal.coe_sub]
  rfl

end Cert.ReferenceIdeal.Read
-- ==== Proof.Value.Quant.lean ====
module

public import proofs.«01_k».proof.Proof.Frame.Region0
public import proofs.«01_k».proof.Proof.Value.Code
public import Idealize.ShloMosaic.Lib.Pipeline.ReadBack
public import Idealize.ShloMosaic.Lib.BitcastPair
public import Idealize.ShloMosaic.Lib.Pipeline.ValueKit.Held

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (V : (c : Dev nD) → (b : Ref sig .tc) → Buf (Elt Ideal) ((c : Thread nD τ).loc b))

/-- Which block each window of the first call shows at a grid point: the batch is the quotient by 36, the step the remainder. -/
theorem idx0 : ∀ t : Fin cfg0.N, win0_0.index t = ![t.val / 36, 0, t.val % 36] ∧ win0_1.index t = ![t.val / 36, 0, 0]
    ∧ win0_2.index t = ![t.val / 36, t.val % 36, 0] ∧ win0_3.index t = ![t.val / 36, t.val % 36, 0]
    ∧ win0_4.index t = ![t.val / 36, t.val % 36, 0] ∧ win0_5.index t = ![t.val / 36, 0, t.val % 36]
    ∧ win0_6.index t = ![t.val / 36, t.val % 36, 0] ∧ win0_7.index t = ![t.val / 36, 0, 0, t.val % 36]
    ∧ win0_8.index t = ![t.val / 36, 0, 0, 0] :=
  (by decide +kernel : ∀ t : Fin grid0.N, _)

/-- At every point the scratch of the pieces of the factor a is made of the point's own block. -/
theorem acat0 (c : Dev nD) (n : Nat) (h : n < cfg0.N) : (outsAt0 V c n h).2.2.2.2.2.2 = k0_pay3 (iblk0 V c 1 ⟨n, h⟩) := by
  induction n with
  | zero =>
    rw [outsAt0_A V c ⟨0, h⟩ rfl]
    frame_out
  | succ n ih =>
    by_cases h0 : (n + 1) % 36 = 0
    · rw [outsAt0_A V c ⟨n + 1, h⟩ h0]
      frame_out
    · rw [outsAt0_B V c ⟨n + 1, h⟩ h0]
      refine (ih (Nat.lt_of_succ_lt h)).trans (congrArg k0_pay3 ?_)
      funext y
      blk_ext [iblk0, idx0 ⟨n, Nat.lt_of_succ_lt h⟩, idx0 ⟨n + 1, h⟩]

/-- The pieces of the factor a left by the point before are those of this point. -/
theorem acatPrev0 (c : Dev nD) (t : Fin cfg0.N) (h0 : ¬ t.val % 36 = 0) (h) : (outsAt0 V c (t.val - 1) h).2.2.2.2.2.2 = k0_pay3 (iblk0 V c 1 t) := by
  refine (acat0 V c _ _).trans (congrArg k0_pay3 ?_)
  funext y
  blk_ext [iblk0, idx0 t, idx0 ⟨t.val - 1, h⟩]

/-- The block of differences the point works on, transposed. -/
def diff0 (c : Dev nD) (t : Fin cfg0.N) : FVec Ideal S1x512x512 .f32 :=
  k0_pay19 (iblk0 V c 0 t) (k0_pay10 (iblk0 V c 2 t)) (k0_pay3 (iblk0 V c 1 t))

/-- The scale of one block of 64 rows. -/
def scale0 (v : FVec Ideal S1x512x512 .f32) (n : Fin 8) (s : Fin 512) : EReal :=
  amaxOf fun k => v (ix3 0 ⟨n.val * 64 + k.val, by omega⟩ s)

/-- An entry divided by the scale of its block, as the kernel does it: times the reciprocal. -/
def code0 (v : FVec Ideal S1x512x512 .f32) (d : Fin 512) (s : Fin 512) : EReal :=
  v (ix3 0 d s) * Ideal.div 1 (scale0 v ⟨d.val / 64, by omega⟩ s)

/-- The block of differences that a point writes. -/
theorem vt0 (c : Dev nD) (t : Fin cfg0.N) : (outsAt0 V c t.val t.isLt).1 = diff0 V c t := by
  by_cases h0 : t.val % 36 = 0
  · rw [outsAt0_A V c t h0]
    frame_out
    rfl
  · rw [outsAt0_B V c t h0]
    frame_out
    rw [acatPrev0 V c t h0]
    simp only [read_unread_whole]
    rfl

/-- Two neighbouring codes read as one word, shifted, joined and cut to a byte: the packed pair. -/
theorem pairWord_apply (u : IVec S64x512 32) (x : S32x512.Idx) :
    IntOp.andi (IntOp.ori (bitcast S32x512 32 (trunci 16 u natLt_16_32) bitcasts_S64x512_w16_S32x512_w32 x)
      (IntOp.shrsi ArithUnit.vector (bitcast S32x512 32 (trunci 16 u natLt_16_32) bitcasts_S64x512_w16_S32x512_w32 x) 12#32)) 255#32
      = pairWord (u (ix2 ⟨2 * (x 0).val, by have : (x 0).val < 32 := (x 0).isLt; omega⟩ (x 1)))
        (u (ix2 ⟨2 * (x 0).val + 1, by have : (x 0).val < 32 := (x 0).isLt; omega⟩ (x 1))) := by
  rw [bitcast_16_32]
  have e : ∀ (k : Nat) (hk : 2 * (x 0).val + k < 64) (h'), bitcasts_S64x512_w16_S32x512_w32.srcIdx x (2 * S32x512.row x + k) h'
      = ix2 (⟨2 * (x 0).val + k, hk⟩ : Fin 64) (x 1) := by
    intro k hk h'
    funext a
    fin_cases a <;> rfl
  have h0 := e 0 (by have : (x 0).val < 32 := (x 0).isLt; omega)
  have h1 := e 1 (by have : (x 0).val < 32 := (x 0).isLt; omega)
  simp only [Nat.add_zero] at h0
  simp only [h0, h1]
  rfl

/-- The block of codes that a point writes. -/
theorem ct0 (c : Dev nD) (t : Fin cfg0.N) (y : S1x512x512.Idx) :
    (outsAt0 V c t.val t.isLt).2.1 y = (codeWord (code0 (diff0 V c t) (y 1) (y 2))).setWidth 8 := by
  rw [← searchWord_eq]
  by_cases h0 : t.val % 36 = 0
  on_goal 1 => rw [outsAt0_A V c t h0]
  on_goal 2 => rw [outsAt0_B V c t h0]
  all_goals
    frame_open
    simp (disch := decide) only [↓ View.readCov_skip, ↓ View.readCov_cons_toLoadRect, ↓ View.readCov_fill]
    frame_out
  on_goal 2 => rw [acatPrev0 V c t h0]; simp only [read_unread_whole]
  all_goals
    rw [← diff0]
    generalize diff0 V c t = v
    clear h0
    canon_tiles x h
    all_goals
      open_payloads
      pointwise
      refine congrArg (fun z => BitVec.setWidth 8 (searchWord z)) ?_
      simp only [code0, scale0, amaxOf]
      blk_point

/-- The block of scales that a point writes. -/
theorem amax0 (c : Dev nD) (t : Fin cfg0.N) (y : S1x8x512.Idx) :
    (outsAt0 V c t.val t.isLt).2.2.2.1 y = scale0 (diff0 V c t) (y 1) (y 2) := by
  by_cases h0 : t.val % 36 = 0
  on_goal 1 => rw [outsAt0_A V c t h0]
  on_goal 2 => rw [outsAt0_B V c t h0]
  all_goals
    frame_open
    simp (disch := decide) only [↓ View.readCov_skip, ↓ View.readCov_cons_toLoadRect, ↓ View.readCov_fill]
    frame_out
  on_goal 2 => rw [acatPrev0 V c t h0]; simp only [read_unread_whole]
  all_goals
    rw [← diff0]
    generalize diff0 V c t = v
    clear h0
    open_payloads
    pointwise
    have hy : (y 1).val < 8 := (y 1).isLt
    simp only [scale0, amaxOf_fold]
    split_ifs <;> blk_point

set_option maxHeartbeats 4000000 in
/-- The block of packed codes that a point writes. -/
theorem q0 (c : Dev nD) (t : Fin cfg0.N) (y : S1x512x256.Idx) :
    (outsAt0 V c t.val t.isLt).2.2.1 y
      = (pairWord (codeWord (code0 (diff0 V c t) ⟨2 * (y 2).val, by have : (y 2).val < 256 := (y 2).isLt; omega⟩ (y 1)))
          (codeWord (code0 (diff0 V c t) ⟨2 * (y 2).val + 1, by have : (y 2).val < 256 := (y 2).isLt; omega⟩ (y 1)))).setWidth 8 := by
  by_cases h0 : t.val % 36 = 0
  on_goal 1 => rw [outsAt0_A V c t h0]
  on_goal 2 => rw [outsAt0_B V c t h0]
  all_goals
    frame_open
    simp (disch := decide) only [↓ View.readCov_skip, ↓ View.readCov_cons_toLoadRect, ↓ View.readCov_fill]
    frame_out
  on_goal 2 => rw [acatPrev0 V c t h0]; simp only [read_unread_whole]
  all_goals
    rw [← diff0]
    generalize diff0 V c t = v
    clear h0
    pointwise [k0_pay2, k0_pay29, k0_pay42, k0_pay51, k0_pay63, k0_pay73, k0_pay86, k0_pay95, k0_pay107]
    simp only [pairWord_apply, ← searchWord_eq]
    have hy : (y 2).val < 256 := (y 2).isLt
    split_ifs
    all_goals
      refine congrArg (BitVec.setWidth 8) (congrArg₂ pairWord ?_ ?_)
      all_goals
        open_payloads
        pointwise
        refine congrArg (fun z => searchWord z) ?_
        simp only [code0, scale0, amaxOf]
        blk_point

/-- The three pieces of the transposed factor b that a point writes. -/
theorem bt0 (c : Dev nD) (t : Fin cfg0.N) (y : S1x3x640x512.Idx) :
    (outsAt0 V c t.val t.isLt).2.2.2.2.1 y = (fun b : EReal => if (y 1).val = 0 then b else if (y 1).val = 1 then b - b else b - b - (b - b)) (iblk0 V c 2 t (ix3 0 (y 3) (y 2))) := by
  by_cases h0 : t.val % 36 = 0
  on_goal 1 => rw [outsAt0_A V c t h0]
  on_goal 2 => rw [outsAt0_B V c t h0]
  all_goals
    frame_open
    simp (disch := decide) only [↓ View.readCov_skip, ↓ View.readCov_cons_toLoadRect, ↓ View.readCov_fill]
    frame_out
    clear h0
    generalize iblk0 V c 2 t = v
    canon_tiles x h
    all_goals
      open_payloads
      pointwise
      split_ifs <;> first | omega | blk_point

end Cert.KernelIdeal.Gen
-- ==== Proof.Value.QuantArrays.lean ====
module

public import proofs.«01_k».proof.Proof.Frame.Region0
public import proofs.«01_k».proof.Proof.Value.Quant
public import Idealize.ShloMosaic.Lib.Pipeline.ReadBack
public import Idealize.ShloMosaic.Lib.Pipeline.ValueKit.Held

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (V : (c : Dev nD) → (b : Ref sig .tc) → Buf (Elt Ideal) ((c : Thread nD τ).loc b))

/-- A piece written first does not matter where one of the two later ones covers it. -/
theorem canon_drop {S : Shape} {e : EltTy} {Val : EltTy → Type} [∀ e, Nonempty (Val e)] (p q r : View.Piece Val S e) (y : S.Idx)
    (h : y ∈ p.1.set ∨ y ∈ q.1.set) : View.canon [p, q, r] y = View.canon [p, q] y := by
  by_cases hp : y ∈ p.1.set
  · obtain ⟨x, rfl⟩ := p.1.exists_idx_of_mem hp
    exact (View.canon_cons_emb p.1 p.2 _ x).trans (View.canon_cons_emb p.1 p.2 _ x).symm
  · rw [View.canon_cons_of_not_mem _ _ hp, View.canon_cons_of_not_mem _ _ hp]
    obtain ⟨x, rfl⟩ := q.1.exists_idx_of_mem (h.resolve_left hp)
    exact (View.canon_cons_emb q.1 q.2 _ x).trans (View.canon_cons_emb q.1 q.2 _ x).symm

/-- What one point adds to the two Gram matrices. -/
def gTerm0 (c : Dev nD) (t : Fin cfg0.N) (y : S1x2x640x640.Idx) : EReal :=
  (fun v : Fin 512 → Fin 640 → EReal =>
    if (y 1).val = 0 then ∑ k, v k (y 2) * v k (y 3) + ∑ k, (v k (y 2) - v k (y 2)) * (v k (y 3) - v k (y 3))
    else ∑ k, v k (y 2) * (v k (y 3) - v k (y 3)) + ∑ k, v k (y 2) * (v k (y 3) - v k (y 3) - (v k (y 3) - v k (y 3))))
    fun k j => iblk0 V c 2 t (ix3 0 k j)

/-- At the first step of a batch the Gram matrices are the point's own terms. -/
theorem g0A (c : Dev nD) (t : Fin cfg0.N) (h0 : t.val % 36 = 0) (y : S1x2x640x640.Idx) :
    (outsAt0 V c t.val t.isLt).2.2.2.2.2.1 y = 0 + gTerm0 V c t y := by
  rw [outsAt0_A V c t h0, zero_add, gTerm0]
  frame_open
  simp (disch := decide) only [↓ View.readCov_skip, ↓ View.readCov_cons_toLoadRect, ↓ View.readCov_fill]
  frame_out
  generalize iblk0 V c 2 t = v
  clear h0
  have hy0 : (y 0).val < 1 := (y 0).isLt
  have hy1 : (y 1).val < 2 := (y 1).isLt
  have hy2 : (y 2).val < 640 := (y 2).isLt
  have hy3 : (y 3).val < 640 := (y 3).isLt
  rw [canon_drop]
  · canon_tiles x h
    all_goals
      open_payloads
      pointwise
      split_ifs <;> first | omega | blk_point
  · rw [Rect.mem_set_unit, Rect.mem_set_unit]
    rcases Nat.lt_or_ge (y 1).val 1 with h | h
    · right; intro a; fin_cases a <;> simp <;> omega
    · left; intro a; fin_cases a <;> simp <;> omega

/-- At any other step the Gram matrices are those of the point before with the point's own terms added. -/
theorem g0B (c : Dev nD) (t : Fin cfg0.N) (h0 : ¬t.val % 36 = 0) (y : S1x2x640x640.Idx) :
    (outsAt0 V c t.val t.isLt).2.2.2.2.2.1 y = (outsAt0 V c (t.val - 1) (Nat.lt_of_le_of_lt (Nat.sub_le _ _) t.isLt)).2.2.2.2.2.1 y + gTerm0 V c t y := by
  rw [outsAt0_B V c t h0, gTerm0]
  generalize (outsAt0 V c (t.val - 1) _).2.2.2.2.2.1 = u
  frame_open
  simp (disch := decide) only [↓ View.readCov_skip, ↓ View.readCov_cons_toLoadRect, ↓ View.readCov_fill]
  frame_out
  generalize iblk0 V c 2 t = v
  clear h0
  canon_tiles x h
  all_goals
    open_payloads
    pointwise
    refine congrArg₂ (· + ·) ?_ ?_
    · blk_point
    · split_ifs <;> first | omega | blk_point

variable (w : Fin 2 → Fin 512 → Fin 18432 → ℝ) (a : Fin 2 → Fin 512 → Fin 640 → ℝ) (b : Fin 2 → Fin 18432 → Fin 640 → ℝ)

/-- The three arguments, at entry of the first call, hold the real numbers `w`, `a`, `b`. -/
structure Holds0 (c : Dev nD) : Prop where
  hw : ∀ z s d, V c main_arg0 (ix3 z s d) = ((w z s d : ℝ) : EReal)
  ha : ∀ z s k, V c main_arg1 (ix3 z s k) = ((a z s k : ℝ) : EReal)
  hb : ∀ z d k, V c main_arg2 (ix3 z d k) = ((b z d k : ℝ) : EReal)

/-- The batch of a grid point. -/
def batch (t : Fin cfg0.N) : Fin 2 := ⟨t.val / 36, by have := t.isLt; have : cfg0.N = 72 := rfl; omega⟩
/-- The column of a grid point's block. -/
def col (t : Fin cfg0.N) (d : Fin 512) : Fin 18432 := ⟨t.val % 36 * 512 + d.val, by omega⟩

variable {w a b}

/-- The block of w at a point. -/
theorem blk0_0 (c : Dev nD) (H : Holds0 V w a b c) (t : Fin cfg0.N) (s d : Fin 512) :
    iblk0 V c 0 t (ix3 0 s d) = ((w (batch t) s (col t d) : ℝ) : EReal) := by
  refine Eq.trans ?_ (H.hw (batch t) s (col t d))
  blk_ext [iblk0, idx0 t, batch, col]

/-- The block of a at a point. -/
theorem blk0_1 (c : Dev nD) (H : Holds0 V w a b c) (t : Fin cfg0.N) (s : Fin 512) (k : Fin 640) :
    iblk0 V c 1 t (ix3 0 s k) = ((a (batch t) s k : ℝ) : EReal) := by
  refine Eq.trans ?_ (H.ha (batch t) s k)
  blk_ext [iblk0, idx0 t, batch]

/-- The block of b at a point. -/
theorem blk0_2 (c : Dev nD) (H : Holds0 V w a b c) (t : Fin cfg0.N) (d : Fin 512) (k : Fin 640) :
    iblk0 V c 2 t (ix3 0 d k) = ((b (batch t) (col t d) k : ℝ) : EReal) := by
  refine Eq.trans ?_ (H.hb (batch t) (col t d) k)
  blk_ext [iblk0, idx0 t, batch, col]

/-- The differences a point writes are w less the product of a and b. -/
theorem diff0_apply (c : Dev nD) (H : Holds0 V w a b c) (t : Fin cfg0.N) (d s : Fin 512) :
    diff0 V c t (ix3 0 d s) = ((diff w a b (batch t) (col t d) s : ℝ) : EReal) := by
  pointwise [diff0, k0_pay19, k0_pay10, k0_pay3, k0_pay6, k0_pay8, k0_pay9, k0_pay5, k0_pay7]
  simp only [blk0_0 V c H, blk0_1 V c H, blk0_2 V c H, coe_sub_self, sub_zero]
  refine (congrArg (((w (batch t) s (col t d) : ℝ) : EReal) - ·) (cat_sum (fun k => ((b (batch t) (col t d) k : ℝ) : EReal))
    (fun k => ((a (batch t) s k : ℝ) : EReal)))).trans ?_
  simp only [diff, EReal.coe_sub, coe_sum, EReal.coe_mul]

/-- The scales a point writes are those of the closed form. -/
theorem scale0_apply (c : Dev nD) (H : Holds0 V w a b c) (t : Fin cfg0.N) (n : Fin 8) (s : Fin 512) :
    scale0 (diff0 V c t) n s = scale (fun z d s => ((diff w a b z d s : ℝ) : EReal)) (batch t) ⟨t.val % 36 * 8 + n.val, by omega⟩ s := by
  simp only [scale0, scale, diff0_apply V c H]
  refine congrArg amaxOf (funext fun k => ?_)
  have e : col t ⟨n.val * 64 + k.val, by omega⟩ = ⟨(t.val % 36 * 8 + n.val) * 64 + k.val, by omega⟩ := Fin.ext (by simp only [col]; omega)
  rw [e]

/-- The scaled entries of a point are those of the closed form. -/
theorem code0_apply (c : Dev nD) (H : Holds0 V w a b c) (t : Fin cfg0.N) (d s : Fin 512) :
    code0 (diff0 V c t) d s = scaled (fun z d s => ((diff w a b z d s : ℝ) : EReal)) (batch t) (col t d) s := by
  simp only [code0, scaled, diff0_apply V c H, scale0_apply V c H]
  have e : (⟨t.val % 36 * 8 + d.val / 64, by omega⟩ : Fin 288) = ⟨(col t d).val / 64, by have := (col t d).isLt; omega⟩ := Fin.ext (by simp only [col]; omega)
  rw [e]

/-- After the first call the array of differences holds w less the product of a and b. -/
theorem arr0_3 (c : Dev nD) (H : Holds0 V w a b c) :
    (dat0 V c).arrAt 3 cfg0.N = fun i : S2x18432x512.Idx => ((diff w a b (i 0) (i 1) (i 2) : ℝ) : EReal) := by
  refine (dat0 V c).arrAt_eq_of_covers 3 _ (by decide +kernel) fun t hf y => ?_
  blk_simp
  rw [after0_3, vt0]
  refine Eq.trans ?_ ((diff0_apply V c H t (y 1) (y 2)).trans ?_)
  · blk_ext
  · refine congrArg _ (eq3 (diff w a b) ?_ ?_ ?_)
    all_goals
      refine Fin.ext ?_
      blk_simp [idx0 t, batch, col]
      try omega

/-- After the first call the array of codes holds the codes of the scaled differences. -/
theorem arr0_4 (c : Dev nD) (H : Holds0 V w a b c) :
    (dat0 V c).arrAt 4 cfg0.N = fun i : S2x18432x512.Idx =>
      (codeWord (scaled (fun z d s => ((diff w a b z d s : ℝ) : EReal)) (i 0) (i 1) (i 2))).setWidth 8 := by
  refine (dat0 V c).arrAt_eq_of_covers 4 _ (by decide +kernel) fun t hf y => ?_
  blk_simp
  rw [after0_4, ct0]
  refine congrArg (fun x => (codeWord x).setWidth 8) ((code0_apply V c H t (y 1) (y 2)).trans (eq3 (scaled _) ?_ ?_ ?_))
  all_goals
    refine Fin.ext ?_
    blk_simp [idx0 t, batch, col]
    all_goals try dsimp only
    all_goals try omega

/-- After the first call the array of packed codes holds the bytes of neighbouring codes. -/
theorem arr0_5 (c : Dev nD) (H : Holds0 V w a b c) :
    (dat0 V c).arrAt 5 cfg0.N = fun i : S2x512x9216.Idx =>
      (fun (z : Fin 2) (s : Fin 512) (h : Fin 9216) => (pairWord
        (codeWord (scaled (fun z d s => ((diff w a b z d s : ℝ) : EReal)) z ⟨2 * h.val, by omega⟩ s))
        (codeWord (scaled (fun z d s => ((diff w a b z d s : ℝ) : EReal)) z ⟨2 * h.val + 1, by omega⟩ s))).setWidth 8)
        (i 0) (i 1) (i 2) := by
  refine (dat0 V c).arrAt_eq_of_covers 5 _ (by decide +kernel) fun t hf y => ?_
  blk_simp
  rw [after0_5, q0]
  refine congrArg (BitVec.setWidth 8) (congrArg₂ pairWord
    (congrArg codeWord ((code0_apply V c H t _ (y 1)).trans (eq3 (scaled _) ?_ ?_ ?_)))
    (congrArg codeWord ((code0_apply V c H t _ (y 1)).trans (eq3 (scaled _) ?_ ?_ ?_))))
  all_goals
    refine Fin.ext ?_
    blk_simp [idx0 t, batch, col]
    all_goals try dsimp only
    all_goals try omega

/-- After the first call the array of scales holds the scales. -/
theorem arr0_6 (c : Dev nD) (H : Holds0 V w a b c) :
    (dat0 V c).arrAt 6 cfg0.N = fun i : S2x288x512.Idx => scale (fun z d s => ((diff w a b z d s : ℝ) : EReal)) (i 0) (i 1) (i 2) := by
  refine (dat0 V c).arrAt_eq_of_covers 6 _ (by decide +kernel) fun t hf y => ?_
  blk_simp
  rw [after0_6, amax0]
  refine (scale0_apply V c H t (y 1) (y 2)).trans (eq3 (scale _) ?_ ?_ ?_)
  all_goals
    refine Fin.ext ?_
    blk_simp [idx0 t, batch, col]
    all_goals try dsimp only
    all_goals try omega

/-- After the first call the array of pieces holds b transposed in the first piece and zeros in the others. -/
theorem arr0_7 (c : Dev nD) (H : Holds0 V w a b c) :
    (dat0 V c).arrAt 7 cfg0.N = fun i : S2x3x640x18432.Idx => if (i 1).val = 0 then ((b (i 0) (i 3) (i 2) : ℝ) : EReal) else 0 := by
  refine (dat0 V c).arrAt_eq_of_covers 7 _ (by decide +kernel) fun t hf y => ?_
  blk_simp
  rw [after0_7, bt0]
  have hx := blk0_2 V c H t (y 3) (y 2)
  generalize iblk0 V c 2 t (ix3 0 (y 3) (y 2)) = x at hx ⊢
  subst hx
  simp only [coe_sub_self, sub_zero, ite_self]
  have e : win0_7.index t 1 * 3 + (y 1).val = (y 1).val := by
    blk_simp [idx0 t]
  rw [e]
  refine if_congr Iff.rfl (congrArg _ (eq3 b ?_ ?_ ?_)) rfl
  all_goals
    refine Fin.ext ?_
    blk_simp [idx0 t, batch, col]
    all_goals try dsimp only
    all_goals try omega

/-- What a point adds to the first Gram matrix is the product of its rows of b; to the second it adds zero. -/
theorem gTerm0_apply (c : Dev nD) (H : Holds0 V w a b c) (t : Fin cfg0.N) (y : S1x2x640x640.Idx) :
    gTerm0 V c t y = if (y 1).val = 0 then ∑ d : Fin 512, ((b (batch t) (col t d) (y 2) * b (batch t) (col t d) (y 3) : ℝ) : EReal) else 0 := by
  have e : (fun k j => iblk0 V c 2 t (ix3 0 k j)) = fun k j => ((b (batch t) (col t k) j : ℝ) : EReal) :=
    funext fun k => funext fun j => blk0_2 V c H t k j
  rw [gTerm0, e]
  simp only [coe_sub_self, sub_zero, mul_zero, Finset.sum_const_zero, add_zero, EReal.coe_mul]

/-- After the first call the first Gram matrix holds the product over all columns, the second holds zeros. -/
theorem arr0_8 (c : Dev nD) (H : Holds0 V w a b c) :
    (dat0 V c).arrAt 8 cfg0.N = fun i : S2x2x640x640.Idx =>
      if (i 1).val = 0 then ∑ d : Fin 18432, ((b (i 0) d (i 2) * b (i 0) d (i 3) : ℝ) : EReal) else 0 := by
  refine (dat0 V c).arrAt_eq_of_covers 8 _ (by decide +kernel) fun t hf y => ?_
  blk_simp
  rw [after0_8, Pipeline.eq_sum_fin_of_reset_step_apply_of_flush (fun n h => (outsAt0 V c n h).2.2.2.2.2.1) 36 (fun _ => (0 : EReal)) (gTerm0 V c)
    (fun t h j => g0A V c t h j) (fun t h j => g0B V c t h j) t ((flush0_8 t).mp hf) _, zero_add]
  refine (Finset.sum_congr rfl fun s _ => gTerm0_apply V c H _ _).trans ?_
  have e : win0_8.index t 1 * 2 + (y 1).val = (y 1).val := by
    blk_simp [idx0 t]
  rw [e]
  by_cases h1 : (y 1).val = 0
  · rw [if_pos h1]
    simp only [if_pos h1]
    refine Fin.sum_mul_add_congr fun s k hl => ?_
    refine congrArg _ (congrArg₂ (· * ·) (eq3 b ?_ ?_ ?_) (eq3 b ?_ ?_ ?_))
    all_goals
      refine Fin.ext ?_
      have := s.isLt
      have := Pipeline.run_point_lt_of_flush t ((flush0_8 t).mp hf) s
      blk_simp [idx0 t, batch, col]
      all_goals try dsimp only
    all_goals try omega
  · rw [if_neg h1]
    simp only [if_neg h1, Finset.sum_const_zero]
end Cert.KernelIdeal.Gen
-- ==== Proof.Value.Lstsq.lean ====
module

public import proofs.«01_k».proof.Proof.Frame.Region1
public import proofs.«01_k».proof.Proof.Value.Level
public import Idealize.ShloMosaic.Lib.Pipeline.ReadBack
public import Idealize.ShloMosaic.Lib.Pipeline.ValueKit.Held

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (V : (c : Dev nD) → (b : Ref sig .tc) → Buf (Elt Ideal) ((c : Thread nD τ).loc b))

/-- Which block each window of the second call shows at a grid point: the batch is the quotient by 36, the step the remainder. -/
theorem idx1 : ∀ t : Fin cfg1.N, win1_0.index t = ![t.val / 36, t.val % 36, 0] ∧ win1_1.index t = ![t.val / 36, t.val % 36, 0]
    ∧ win1_2.index t = ![t.val / 36, 0, 0] ∧ win1_3.index t = ![t.val / 36, 0, 0, t.val % 36]
    ∧ win1_4.index t = ![t.val / 36, 0, 0] ∧ win1_5.index t = ![t.val / 36, 0, 0]
    ∧ win1_6.index t = ![t.val / 36, 0, 0] ∧ win1_7.index t = ![t.val / 36, 0, 0]
    ∧ win1_8.index t = ![t.val / 36, 0, 0] :=
  (by decide +kernel : ∀ t : Fin grid1.N, _)

/-- The block of scales is the same at a point and at the first point of its batch. -/
theorem blk1_2_start (c : Dev nD) (t : Fin cfg1.N) (h) : iblk1 V c 2 ⟨36 * (t.val / 36), h⟩ = iblk1 V c 2 t := by
  funext y
  blk_ext [iblk1, idx1 ⟨36 * (t.val / 36), h⟩, idx1 t]

/-- The block of scales is the same at a point and at the one before it in the batch. -/
theorem blk1_2_prev (c : Dev nD) (t : Fin cfg1.N) (h0 : ¬ t.val % 36 = 0) (h) : iblk1 V c 2 ⟨t.val - 1, h⟩ = iblk1 V c 2 t := by
  funext y
  blk_ext [iblk1, idx1 ⟨t.val - 1, h⟩, idx1 t]

/-- At every point the scratch of rounded scales is what the first point of the batch computed from the scales. -/
theorem bs1 (c : Dev nD) (t : Fin cfg1.N) : (outsAt1 V c t.val t.isLt).2.2.2.2.2 = k1_pay6 (iblk1 V c 2 t) := by
  refine (Pipeline.eq_of_write_hold (fun n h => (outsAt1 V c n h).2.2.2.2.2) 36 (fun t => k1_pay6 (iblk1 V c 2 t)) (fun t h => ?_) (fun t h => ?_) t).trans
    (congrArg k1_pay6 (blk1_2_start V c t _))
  · rw [outsAt1_A V c t h]
    frame_out
  · rw [outsAt1_B V c t h]
    rfl

/-- At every point the block of scale codes is what the first point of the batch computed from the scales. -/
theorem codes1 (c : Dev nD) (t : Fin cfg1.N) : (outsAt1 V c t.val t.isLt).2.2.1 = k1_pay7 (iblk1 V c 2 t) := by
  refine (Pipeline.eq_of_write_hold (fun n h => (outsAt1 V c n h).2.2.1) 36 (fun t => k1_pay7 (iblk1 V c 2 t)) (fun t h => ?_) (fun t h => ?_) t).trans
    (congrArg k1_pay7 (blk1_2_start V c t _))
  · rw [outsAt1_A V c t h]
    frame_out
  · rw [outsAt1_B V c t h]
    rfl

/-- At every point the scale of the scales is what the first point of the batch computed from the scales. -/
theorem s1 (c : Dev nD) (t : Fin cfg1.N) : (outsAt1 V c t.val t.isLt).2.2.2.1 = k1_pay5 (iblk1 V c 2 t) := by
  refine (Pipeline.eq_of_write_hold (fun n h => (outsAt1 V c n h).2.2.2.1) 36 (fun t => k1_pay5 (iblk1 V c 2 t)) (fun t h => ?_) (fun t h => ?_) t).trans
    (congrArg k1_pay5 (blk1_2_start V c t _))
  · rw [outsAt1_A V c t h]
    frame_out
  · rw [outsAt1_B V c t h]
    rfl

/-- At every point the block of transposed scales is what the first point of the batch wrote. -/
theorem amax1 (c : Dev nD) (t : Fin cfg1.N) : (outsAt1 V c t.val t.isLt).2.2.2.2.1 = k1_pay8 (iblk1 V c 2 t) := by
  refine (Pipeline.eq_of_write_hold (fun n h => (outsAt1 V c n h).2.2.2.2.1) 36 (fun t => k1_pay8 (iblk1 V c 2 t)) (fun t h => ?_) (fun t h => ?_) t).trans
    (congrArg k1_pay8 (blk1_2_start V c t _))
  · rw [outsAt1_A V c t h]
    frame_out
  · rw [outsAt1_B V c t h]
    rfl

/-- The rounded scales left by the point before are those of this point. -/
theorem bsPrev1 (c : Dev nD) (t : Fin cfg1.N) (h0 : ¬ t.val % 36 = 0) (h) : (outsAt1 V c (t.val - 1) h).2.2.2.2.2 = k1_pay6 (iblk1 V c 2 t) :=
  (bs1 V c ⟨t.val - 1, h⟩).trans (congrArg k1_pay6 (blk1_2_prev V c t h0 h))

/-- What is left of one block of 64 rows after the decoded codes times the block's scale are taken away. -/
def eBlk (v6 : Vec Ideal S8x512 .f32) (x : Vec Ideal S1x64x512 .f32) (u : Vec Ideal S1x64x512 .i8) (n : Fin 8) : FVec Ideal S64x512 .f32 :=
  fun y => (x (ix3 0 (y 0) (y 1)) : EReal) - decode (u (ix3 0 (y 0) (y 1))) * (v6 (ix2 n (y 1)) : EReal)

/-- The eight blocks of rows are treated alike. -/
theorem eBlk_eq (v6 : Vec Ideal S8x512 .f32) (x : Vec Ideal S1x64x512 .f32) (u : Vec Ideal S1x64x512 .i8) :
    k1_pay19 v6 (k1_pay12 x) (k1_pay14 u) (k1_pay15 u) (k1_pay16 u) (k1_pay17 u) (k1_pay18 u) (FloatOps.ofBits FTy.f32 1058015147#32) = eBlk v6 x u 0
    ∧ k1_pay30 v6 (k1_pay21 x) (k1_pay24 (k1_pay22 u)) (k1_pay25 (k1_pay22 u)) (k1_pay26 (k1_pay22 u)) (k1_pay27 (k1_pay22 u)) (k1_pay28 (k1_pay22 u)) (k1_pay29 (k1_pay22 u)) (FloatOps.ofBits FTy.f32 3200922272#32) = eBlk v6 x u 1
    ∧ k1_pay40 v6 (k1_pay32 x) (k1_pay34 u) (k1_pay35 u) (k1_pay36 u) (k1_pay37 u) k1_pay38 k1_pay39 = eBlk v6 x u 2
    ∧ k1_pay51 v6 (k1_pay42 x) (k1_pay44 u) (k1_pay45 u) (k1_pay46 u) (k1_pay47 u) (k1_pay48 u) (k1_pay49 u) (k1_pay50 u) = eBlk v6 x u 3
    ∧ k1_pay59 v6 (k1_pay53 x) (k1_pay55 u) (k1_pay56 u) (k1_pay57 u) (k1_pay58 u) (FloatOps.ofBits FTy.f32 1065353216#32) (FloatOps.ofBits FTy.f32 1060705203#32) = eBlk v6 x u 4
    ∧ k1_pay70 v6 (k1_pay61 x) (k1_pay63 u) (k1_pay64 u) (k1_pay65 u) (k1_pay66 u) (k1_pay67 u) (k1_pay68 u) (FloatOps.ofBits FTy.f32 3197215309#32) k1_pay69 = eBlk v6 x u 5
    ∧ k1_pay78 v6 (k1_pay72 x) (k1_pay74 u) (k1_pay75 u) (k1_pay76 u) (k1_pay77 u) = eBlk v6 x u 6
    ∧ k1_pay88 v6 (k1_pay80 x) (k1_pay82 u) (k1_pay83 u) (k1_pay84 u) (k1_pay85 u) (k1_pay86 u) (k1_pay87 u) (FloatOps.ofBits FTy.f32 3191682367#32) = eBlk v6 x u 7 := by
  refine ⟨?_, ?_, ?_, ?_, ?_, ?_, ?_, ?_⟩ <;> funext y <;>
    (pointwise [k1_pay12, k1_pay13, k1_pay14, k1_pay15, k1_pay16, k1_pay17, k1_pay18, k1_pay19, k1_pay21, k1_pay22, k1_pay23, k1_pay24,
      k1_pay25, k1_pay26, k1_pay27, k1_pay28, k1_pay29, k1_pay30, k1_pay32, k1_pay33, k1_pay34, k1_pay35, k1_pay36, k1_pay37, k1_pay38,
      k1_pay39, k1_pay40, k1_pay42, k1_pay43, k1_pay44, k1_pay45, k1_pay46, k1_pay47, k1_pay48, k1_pay49, k1_pay50, k1_pay51, k1_pay53,
      k1_pay54, k1_pay55, k1_pay56, k1_pay57, k1_pay58, k1_pay59, k1_pay61, k1_pay62, k1_pay63, k1_pay64, k1_pay65, k1_pay66, k1_pay67,
      k1_pay68, k1_pay69, k1_pay70, k1_pay72, k1_pay73, k1_pay74, k1_pay75, k1_pay76, k1_pay77, k1_pay78, k1_pay80, k1_pay81, k1_pay82,
      k1_pay83, k1_pay84, k1_pay85, k1_pay86, k1_pay87, k1_pay88, eBlk, decode, pick]; try rfl)

/-- The rows of the rounded scales that a point reads start at eight times its step. -/
theorem off1 : ∀ t : Fin cfg1.N, k1_off1 (grid1.coords t) = ![t.val % 36 * 8, 0] := by decide +kernel

/-- What is left of the point's block after the decoded codes times the scales are taken away. -/
def e1 (c : Dev nD) (t : Fin cfg1.N) (d s : Fin 512) : EReal :=
  (fun (x : Vec Ideal S1x512x512 .f32) (u : Vec Ideal S1x512x512 .i8) (bs : Vec Ideal S288x512 .f32) =>
    (x (ix3 0 d s) : EReal) - decode (u (ix3 0 d s)) * (bs (ix2 ⟨t.val % 36 * 8 + d.val / 64, by omega⟩ s) : EReal))
    (iblk1 V c 0 t) (iblk1 V c 1 t) (k1_pay6 (iblk1 V c 2 t))

/-- The eight blocks of rows, one above the other. -/
def eCat (v0 v1 v2 v3 v4 v5 v6 v7 : FVec Ideal S64x512 .f32) : FVec Ideal S512x512 .f32 :=
  concatenate S512x512 0 [⟨S64x512, v0⟩, ⟨S64x512, v1⟩, ⟨S64x512, v2⟩, ⟨S64x512, v3⟩, ⟨S64x512, v4⟩, ⟨S64x512, v5⟩, ⟨S64x512, v6⟩, ⟨S64x512, v7⟩]
    concatenates_S64x512_S64x512_S64x512_S64x512_S64x512_S64x512_S64x512_S64x512_S512x512_d0

/-- The blocks' stack, with the last block not yet put together. -/
theorem pay92_eq (b : Vec Ideal S8x512 .f32) (v0 v1 v2 v3 v4 v5 v6 : FVec Ideal S64x512 .f32) (x : Vec Ideal S1x64x512 .f32) (u : Vec Ideal S1x64x512 .i8) :
    k1_pay92 b v0 v1 v2 v3 v4 v5 v6 (k1_pay80 x) (k1_pay82 u) (k1_pay83 u) (k1_pay84 u) (k1_pay85 u) (k1_pay86 u) (k1_pay87 u) (FloatOps.ofBits FTy.f32 3191682367#32)
      = eCat v0 v1 v2 v3 v4 v5 v6 (eBlk b x u 7) := by
  rw [← (eBlk_eq b x u).2.2.2.2.2.2.2]
  rfl

/-- One point adds the squares of what is left in its 512 rows to the squared norms, starting from zero at the first step. -/
theorem e2_step (c : Dev nD) (t : Fin cfg1.N) (y : S1x1x512.Idx) :
    (outsAt1 V c t.val t.isLt).2.1 y = (if t.val % 36 = 0 then (0 : EReal) else (outsAt1 V c (t.val - 1) (Nat.lt_of_le_of_lt (Nat.sub_le _ _) t.isLt)).2.1 y)
      + ∑ d, e1 V c t d (y 2) * e1 V c t d (y 2) := by
  have hs : (∑ k : Fin 8, ∑ j : Fin 64, e1 V c t ⟨k.val * 64 + j.val, by omega⟩ (y 2) * e1 V c t ⟨k.val * 64 + j.val, by omega⟩ (y 2))
      = ∑ d, e1 V c t d (y 2) * e1 V c t d (y 2) := Fin.sum_mul_add_congr fun k j h => rfl
  rw [← hs, Fin.sum_univ_eight]
  simp only [← add_assoc]
  have F : ∀ {a a' b b' : EReal}, a = a' → b = b' → a + b = a' + b' := fun h h' => congrArg₂ (· + ·) h h'
  by_cases h0 : t.val % 36 = 0
  on_goal 1 => rw [outsAt1_A V c t h0, if_pos h0]
  on_goal 2 => rw [outsAt1_B V c t h0, if_neg h0]
  all_goals
    frame_open
    simp (disch := decide) only [↓ View.readCov_skip, ↓ View.readCov_cons_toLoadRect, ↓ View.readCov_fill]
    frame_out
  on_goal 2 => rw [bsPrev1 V c t h0]
  on_goal 2 => simp only [read_unread_whole]
  all_goals
    simp only [k1_pay20, k1_pay31, k1_pay41, k1_pay52, k1_pay60, k1_pay71, k1_pay79, k1_pay89, eBlk_eq, e1]
    generalize iblk1 V c 0 t = x
    generalize iblk1 V c 1 t = u
    generalize k1_pay6 (iblk1 V c 2 t) = bs
    pointwise [k1_pay10, k1_pay11, eBlk]
  on_goal 1 => refine F (F (F (F (F (F (F ?_ ?_) ?_) ?_) ?_) ?_) ?_) ?_
  on_goal 9 => refine F (F (F (F (F (F (F (F (by blk_point) ?_) ?_) ?_) ?_) ?_) ?_) ?_) ?_
  all_goals
    refine Finset.sum_congr rfl fun j _ => ?_
    simp only [off1 t]
    refine congrArg (fun a : EReal => a * a) (congrArg₂ (fun a b : EReal => a - b) ?_ (congrArg₂ (fun a b : EReal => a * b) ?_ ?_))
    all_goals first | rfl | blk_point

/-- An entry of a block. -/
theorem eBlk_apply (v6 : Vec Ideal S8x512 .f32) (x : Vec Ideal S1x64x512 .f32) (u : Vec Ideal S1x64x512 .i8) (n : Fin 8) (j : Fin 64) (s : Fin 512) :
    eBlk v6 x u n (ix2 j s) = (x (ix3 0 j s) : EReal) - decode (u (ix3 0 j s)) * (v6 (ix2 n s) : EReal) := rfl

/-- The stack's entry, from the blocks' entries. -/
theorem eCat_of (f : Fin 512 → Fin 512 → EReal) (v0 v1 v2 v3 v4 v5 v6 v7 : FVec Ideal S64x512 .f32)
    (h0 : ∀ (j : Fin 64) (s : Fin 512), v0 (ix2 j s) = f ⟨0 * 64 + j.val, by omega⟩ s)
    (h1 : ∀ (j : Fin 64) (s : Fin 512), v1 (ix2 j s) = f ⟨1 * 64 + j.val, by omega⟩ s)
    (h2 : ∀ (j : Fin 64) (s : Fin 512), v2 (ix2 j s) = f ⟨2 * 64 + j.val, by omega⟩ s)
    (h3 : ∀ (j : Fin 64) (s : Fin 512), v3 (ix2 j s) = f ⟨3 * 64 + j.val, by omega⟩ s)
    (h4 : ∀ (j : Fin 64) (s : Fin 512), v4 (ix2 j s) = f ⟨4 * 64 + j.val, by omega⟩ s)
    (h5 : ∀ (j : Fin 64) (s : Fin 512), v5 (ix2 j s) = f ⟨5 * 64 + j.val, by omega⟩ s)
    (h6 : ∀ (j : Fin 64) (s : Fin 512), v6 (ix2 j s) = f ⟨6 * 64 + j.val, by omega⟩ s)
    (h7 : ∀ (j : Fin 64) (s : Fin 512), v7 (ix2 j s) = f ⟨7 * 64 + j.val, by omega⟩ s)
    (d s : Fin 512) : eCat v0 v1 v2 v3 v4 v5 v6 v7 (ix2 d s) = f d s := by
  have := d.isLt
  pointwise [eCat]
  split_ifs <;> simp only [h0, h1, h2, h3, h4, h5, h6, h7] <;> refine congrArg (f · s) (Fin.ext ?_) <;> dsimp only <;> omega

/-- Piece `k` of the point's block of the other factor. -/
def bt1 (c : Dev nD) (t : Fin cfg1.N) (k : Fin 3) (q : Fin 640) (d : Fin 512) : EReal :=
  (fun (x : Vec Ideal S1x3x640x512 .f32) => (x (ix4 0 k q d) : EReal)) (iblk1 V c 3 t)

/-- One point adds the product of its 512 rows of the factor with what is left to the projection, starting from zero at the first
    step, when the pieces beyond the first vanish. -/
theorem ut_step (c : Dev nD) (t : Fin cfg1.N) (y : S1x640x512.Idx) (hb1 : ∀ k d, bt1 V c t 1 k d = 0)
    (hb2 : ∀ k d, bt1 V c t 2 k d = 0) (he : ∀ d s, e1 V c t d s - e1 V c t d s = 0) :
    (outsAt1 V c t.val t.isLt).1 y = (if t.val % 36 = 0 then (0 : EReal) else (outsAt1 V c (t.val - 1) (Nat.lt_of_le_of_lt (Nat.sub_le _ _) t.isLt)).1 y)
      + ∑ d : Fin 512, bt1 V c t 0 (y 1) d * e1 V c t d (y 2) := by
  by_cases h0 : t.val % 36 = 0
  on_goal 1 => rw [outsAt1_A V c t h0, if_pos h0]
  on_goal 2 => rw [outsAt1_B V c t h0, if_neg h0]
  all_goals
    frame_open
    simp (disch := decide) only [↓ View.readCov_skip, ↓ View.readCov_cons_toLoadRect, ↓ View.readCov_fill]
    frame_out
  on_goal 2 => rw [bsPrev1 V c t h0]
  on_goal 2 => simp only [read_unread_whole]
  all_goals
    simp only [k1_pay93, eBlk_eq, pay92_eq]
    generalize hE : eCat _ _ _ _ _ _ _ _ = e
    have hE' : ∀ d s, e (ix2 d s) = e1 V c t d s := by
      rw [← hE]
      clear hE
      simp only [e1]
      generalize iblk1 V c 0 t = x
      generalize iblk1 V c 1 t = u
      generalize k1_pay6 (iblk1 V c 2 t) = bs
      refine eCat_of _ _ _ _ _ _ _ _ _ ?_ ?_ ?_ ?_ ?_ ?_ ?_ ?_
      all_goals
        intro j s
        pointwise [eBlk]
        simp only [off1 t]
        refine congrArg₂ (fun a b : EReal => a - b) ?_ (congrArg₂ (fun a b : EReal => a * b) ?_ ?_)
      all_goals first | rfl | blk_point
    clear hE
    obtain rfl : e = fun z => e1 V c t (z 0) (z 1) := by
      funext z
      have hz : z = ix2 (z 0) (z 1) := by funext i; fin_cases i <;> rfl
      exact (congrArg e hz).trans (hE' (z 0) (z 1))
    pointwise [k1_pay1, k1_pay9, k1_pay90, k1_pay91]
    try dsimp only
  on_goal 2 => refine congrArg₂ (fun a b : EReal => a + b) (by blk_point) ?_
  all_goals
    refine cat_sum_of (n := 512) rfl (fun d => bt1 V c t 0 (y 1) d) (fun d => bt1 V c t 1 (y 1) d) (fun d => bt1 V c t 2 (y 1) d)
      (fun d => e1 V c t d (y 2)) (fun d => e1 V c t d (y 2) - e1 V c t d (y 2))
      (fun d => e1 V c t d (y 2) - e1 V c t d (y 2) - (e1 V c t d (y 2) - e1 V c t d (y 2))) (fun d => hb1 (y 1) d) (fun d => hb2 (y 1) d) (fun d => he d (y 2)) ?_
    intro d
    exact (congrArg₂ (fun a b : EReal => a - b) (he d (y 2)) (he d (y 2))).trans (sub_zero (0 : EReal))
end Cert.KernelIdeal.Gen
-- ==== Proof.Value.LstsqArrays.lean ====
module

public import proofs.«01_k».proof.Proof.Frame.Region0
public import proofs.«01_k».proof.Proof.Value.Lstsq
public import proofs.«01_k».proof.Proof.Value.Spec
public import Idealize.ShloMosaic.Lib.Pipeline.ReadBack
public import Idealize.ShloMosaic.Lib.Pipeline.ValueKit.Held

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (V : (c : Dev nD) → (b : Ref sig .tc) → Buf (Elt Ideal) ((c : Thread nD τ).loc b))

variable {v : Fin 2 → Fin 18432 → Fin 512 → ℝ} {b : Fin 2 → Fin 18432 → Fin 640 → ℝ}

/-- The arrays at the entry of the second region: the differences, their codes, the scales and the transposed factor. -/
structure Holds1 (V : (c : Dev nD) → (b : Ref sig .tc) → Buf (Elt Ideal) ((c : Thread nD τ).loc b)) (v : Fin 2 → Fin 18432 → Fin 512 → ℝ)
    (b : Fin 2 → Fin 18432 → Fin 640 → ℝ) (c : Dev nD) : Prop where
  hv : ∀ z d s, V c main_v0_0 (ix3 z d s) = ((v z d s : ℝ) : EReal)
  hc : ∀ z d s, V c main_v0_1 (ix3 z d s) = (codeWord (scaled (fun z d s => ((v z d s : ℝ) : EReal)) z d s)).setWidth 8
  hs : ∀ z n s, V c main_v0_3 (ix3 z n s) = scale (fun z d s => ((v z d s : ℝ) : EReal)) z n s
  hb : ∀ z k q d, V c main_v0_4 (ix4 z k q d) = if k.val = 0 then ((b z d q : ℝ) : EReal) else 0

/-- The point's batch and the point's columns. -/
def batch1 (t : Fin cfg1.N) : Fin 2 := ⟨t.val / 36, by have : t.val < 72 := t.isLt; omega⟩

/-- The column of the whole that is row d of the point's block. -/
def col1 (t : Fin cfg1.N) (d : Fin 512) : Fin 18432 := ⟨t.val % 36 * 512 + d.val, by omega⟩

/-- The block of differences at a point. -/
theorem blk1_0 (c : Dev nD) (H : Holds1 V v b c) (t : Fin cfg1.N) (d s : Fin 512) :
    iblk1 V c 0 t (ix3 0 d s) = ((v (batch1 t) (col1 t d) s : ℝ) : EReal) := by
  refine Eq.trans ?_ (H.hv (batch1 t) (col1 t d) s)
  blk_ext [iblk1, idx1 t, batch1, col1]

/-- The block of codes at a point. -/
theorem blk1_1 (c : Dev nD) (H : Holds1 V v b c) (t : Fin cfg1.N) (d s : Fin 512) :
    iblk1 V c 1 t (ix3 0 d s) = (codeWord (scaled (fun z d s => ((v z d s : ℝ) : EReal)) (batch1 t) (col1 t d) s)).setWidth 8 := by
  refine Eq.trans ?_ (H.hc (batch1 t) (col1 t d) s)
  blk_ext [iblk1, idx1 t, batch1, col1]

/-- The block of scales at a point. -/
theorem blk1_2 (c : Dev nD) (H : Holds1 V v b c) (t : Fin cfg1.N) (n : Fin 288) (s : Fin 512) :
    iblk1 V c 2 t (ix3 0 n s) = scale (fun z d s => ((v z d s : ℝ) : EReal)) (batch1 t) n s := by
  refine Eq.trans ?_ (H.hs (batch1 t) n s)
  blk_ext [iblk1, idx1 t, batch1, col1]

/-- The pieces of the transposed factor at a point: the first is the factor, the other two are zero. -/
theorem bt1_apply (c : Dev nD) (H : Holds1 V v b c) (t : Fin cfg1.N) (k : Fin 3) (q : Fin 640) (d : Fin 512) :
    bt1 V c t k q d = if k.val = 0 then ((b (batch1 t) (col1 t d) q : ℝ) : EReal) else 0 := by
  refine Eq.trans ?_ (H.hb (batch1 t) k q (col1 t d))
  unfold bt1
  blk_ext [iblk1, idx1 t, batch1, col1]

/-- The scale of the scales is the greatest scale over 127. -/
theorem s1_apply (c : Dev nD) (H : Holds1 V v b c) (t : Fin cfg1.N) (s : Fin 512) :
    k1_pay5 (iblk1 V c 2 t) (ix3 0 0 s) = top (fun z d s => ((v z d s : ℝ) : EReal)) (batch1 t) s := by
  pointwise [k1_pay5, k1_pay3, k1_pay2]
  simp only [blk1_2 V c H]
  rfl

/-- The rounded scales are reals, those of the closed form. -/
theorem bs1_apply (c : Dev nD) (H : Holds1 V v b c) (t : Fin cfg1.N) (n : Fin 288) (s : Fin 512) :
    k1_pay6 (iblk1 V c 2 t) (ix2 n s) = ((bscaleR v (batch1 t) n s : ℝ) : EReal) := by
  rw [← bscale_coe]
  pointwise [k1_pay6, k1_pay4, k1_pay3, k1_pay2]
  simp only [blk1_2 V c H]
  rfl

/-- The scale codes are the rounded quotients as bytes. -/
theorem codes1_apply (c : Dev nD) (H : Holds1 V v b c) (t : Fin cfg1.N) (n : Fin 288) (s : Fin 512) :
    k1_pay7 (iblk1 V c 2 t) (ix3 0 s n) = FloatOps.fptosi (F := Ideal) (φ := .f32) 8 (qcode (fun z d s => ((v z d s : ℝ) : EReal)) (batch1 t) n s) := by
  pointwise [k1_pay7, k1_pay4, k1_pay3, k1_pay2]
  simp only [blk1_2 V c H]
  rfl

/-- The transposed scales are the scales. -/
theorem amax1_apply (c : Dev nD) (H : Holds1 V v b c) (t : Fin cfg1.N) (n : Fin 288) (s : Fin 512) :
    k1_pay8 (iblk1 V c 2 t) (ix3 0 s n) = scale (fun z d s => ((v z d s : ℝ) : EReal)) (batch1 t) n s := by
  pointwise [k1_pay8, k1_pay2]
  exact blk1_2 V c H t n s

/-- What is left at a point is the difference less the decoded value. -/
theorem e1_apply (c : Dev nD) (H : Holds1 V v b c) (t : Fin cfg1.N) (d s : Fin 512) :
    e1 V c t d s = ((v (batch1 t) (col1 t d) s - valueR v (batch1 t) (col1 t d) s : ℝ) : EReal) := by
  unfold e1
  dsimp only
  rw [bs1_apply V c H, blk1_0 V c H, blk1_1 V c H, codeWord, decode_code, ← EReal.coe_mul, ← EReal.coe_sub, valueR]
  refine congrArg (fun n => ((_ - _ * bscaleR v (batch1 t) n s : ℝ) : EReal)) (Fin.ext ?_)
  simp only [col1]
  omega

/-- What is left of a difference, as a real. -/
def restR (v : Fin 2 → Fin 18432 → Fin 512 → ℝ) (z : Fin 2) (d : Fin 18432) (s : Fin 512) : ℝ := v z d s - valueR v z d s

/-- After the second call the array of scale codes holds the rounded quotients as bytes. -/
theorem arr1_6 (c : Dev nD) (H : Holds1 V v b c) :
    (dat1 V c).arrAt 6 cfg1.N = fun i : S2x512x288.Idx =>
      FloatOps.fptosi (F := Ideal) (φ := .f32) 8 (qcode (fun z d s => ((v z d s : ℝ) : EReal)) (i 0) (i 2) (i 1)) := by
  refine (dat1 V c).arrAt_eq_of_covers 6 _ (by decide +kernel) fun t hf y => ?_
  blk_simp
  rw [after1_6, codes1]
  have hy : y = ix3 0 (y 1) (y 2) := by blk_ext
  rw [hy]
  refine (codes1_apply V c H t (y 2) (y 1)).trans (congrArg (FloatOps.fptosi (F := Ideal) (φ := .f32) 8) (eq3 (qcode _) ?_ ?_ ?_))
  all_goals
    refine Fin.ext ?_
    blk_simp [idx1 t, batch1, col1]
    all_goals try dsimp only
    all_goals try omega

/-- After the second call the array of the scales of the scales holds the closed form. -/
theorem arr1_7 (c : Dev nD) (H : Holds1 V v b c) :
    (dat1 V c).arrAt 7 cfg1.N = fun i : S2x1x512.Idx => top (fun z d s => ((v z d s : ℝ) : EReal)) (i 0) (i 2) := by
  refine (dat1 V c).arrAt_eq_of_covers 7 _ (by decide +kernel) fun t hf y => ?_
  blk_simp
  rw [after1_7, s1]
  have hy : y = ix3 0 0 (y 2) := by blk_ext
  rw [hy]
  refine (s1_apply V c H t (y 2)).trans (congrArg₂ (top _) ?_ ?_)
  all_goals
    refine Fin.ext ?_
    blk_simp [idx1 t, batch1, col1]
    all_goals try dsimp only
    all_goals try omega

/-- After the second call the array of scales holds the scales. -/
theorem arr1_8 (c : Dev nD) (H : Holds1 V v b c) :
    (dat1 V c).arrAt 8 cfg1.N = fun i : S2x512x288.Idx => scale (fun z d s => ((v z d s : ℝ) : EReal)) (i 0) (i 2) (i 1) := by
  refine (dat1 V c).arrAt_eq_of_covers 8 _ (by decide +kernel) fun t hf y => ?_
  blk_simp
  rw [after1_8, amax1]
  have hy : y = ix3 0 (y 1) (y 2) := by blk_ext
  rw [hy]
  refine (amax1_apply V c H t (y 2) (y 1)).trans (eq3 (scale _) ?_ ?_ ?_)
  all_goals
    refine Fin.ext ?_
    blk_simp [idx1 t, batch1, col1]
    all_goals try dsimp only
    all_goals try omega

/-- After the second call the array of squared norms holds the sum over all columns of the squares of what is left. -/
theorem arr1_5 (c : Dev nD) (H : Holds1 V v b c) :
    (dat1 V c).arrAt 5 cfg1.N = fun i : S2x1x512.Idx => ∑ d : Fin 18432, ((restR v (i 0) d (i 2) * restR v (i 0) d (i 2) : ℝ) : EReal) := by
  refine (dat1 V c).arrAt_eq_of_covers 5 _ (by decide +kernel) fun t hf y => ?_
  blk_simp
  rw [after1_5, Pipeline.eq_sum_fin_of_reset_step_apply_of_flush (fun n h => (outsAt1 V c n h).2.1) 36 (fun _ => (0 : EReal))
    (fun t y => ∑ d, e1 V c t d (y 2) * e1 V c t d (y 2))
    (fun t h j => (e2_step V c t j).trans (by rw [if_pos h])) (fun t h j => (e2_step V c t j).trans (by rw [if_neg h])) t ((flush1_5 t).mp hf) _, zero_add]
  refine Fin.sum_mul_add_congr fun s k hl => ?_
  refine (congrArg (fun x : EReal => x * x) (e1_apply V c H _ k (y 2))).trans ((EReal.coe_mul _ _).symm.trans ?_)
  refine congrArg _ (congrArg (fun x : ℝ => x * x) (eq3 (restR v) ?_ ?_ ?_))
  all_goals
    refine Fin.ext ?_
    have := s.isLt
    have := Pipeline.run_point_lt_of_flush t ((flush1_5 t).mp hf) s
    blk_simp [idx1 t, batch1, col1]
    all_goals try dsimp only
  all_goals try omega

/-- After the second call the array of projections holds the sum over all columns of the factor times what is left. -/
theorem arr1_4 (c : Dev nD) (H : Holds1 V v b c) :
    (dat1 V c).arrAt 4 cfg1.N = fun i : S2x640x512.Idx => ∑ d : Fin 18432, ((b (i 0) d (i 1) * restR v (i 0) d (i 2) : ℝ) : EReal) := by
  refine (dat1 V c).arrAt_eq_of_covers 4 _ (by decide +kernel) fun t hf y => ?_
  have hu : ∀ (t : Fin cfg1.N) (j : S1x640x512.Idx), _ := fun t j => ut_step V c t j (fun k d => by rw [bt1_apply V c H]; rfl)
    (fun k d => by rw [bt1_apply V c H]; rfl) (fun d s => by rw [e1_apply V c H, coe_sub_self])
  blk_simp
  rw [after1_4, Pipeline.eq_sum_fin_of_reset_step_apply_of_flush (fun n h => (outsAt1 V c n h).1) 36 (fun _ => (0 : EReal))
    (fun t y => ∑ d : Fin 512, bt1 V c t 0 (y 1) d * e1 V c t d (y 2))
    (fun t h j => (hu t j).trans (by rw [if_pos h])) (fun t h j => (hu t j).trans (by rw [if_neg h])) t ((flush1_4 t).mp hf) _, zero_add]
  refine Fin.sum_mul_add_congr fun s k hl => ?_
  refine (congrArg₂ (fun x y : EReal => x * y) ((bt1_apply V c H _ 0 (y 1) k).trans (if_pos rfl)) (e1_apply V c H _ k (y 2))).trans ((EReal.coe_mul _ _).symm.trans ?_)
  refine congrArg _ (congrArg₂ (fun x y : ℝ => x * y) (eq3 b ?_ ?_ ?_) (eq3 (restR v) ?_ ?_ ?_))
  all_goals
    refine Fin.ext ?_
    have := s.isLt
    have := Pipeline.run_point_lt_of_flush t ((flush1_4 t).mp hf) s
    blk_simp [idx1 t, batch1, col1]
    all_goals try dsimp only
  all_goals try omega
end Cert.KernelIdeal.Gen
-- ==== Proof.Value.Finish.lean ====
module

public import proofs.«01_k».proof.Proof.Frame.Region2
public import proofs.«01_k».proof.Proof.Value.Level
public import Idealize.ShloMosaic.Lib.Pipeline.ReadBack
public import Idealize.ShloMosaic.Lib.Pipeline.ValueKit.Held

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (V : (c : Dev nD) → (b : Ref sig .tc) → Buf (Elt Ideal) ((c : Thread nD τ).loc b))

/-- The new factor of one batch, transposed: `u + g aᵀ`. -/
def anewT (g : Fin 640 → Fin 640 → ℝ) (u : Fin 640 → Fin 512 → ℝ) (a : Fin 512 → Fin 640 → ℝ) (q : Fin 640) (s : Fin 512) : ℝ :=
  u q s + ∑ k, g q k * a s k

/-- The sum of squares of row `s`, from the sum of squares before the factor changed. -/
def residT (g : Fin 640 → Fin 640 → ℝ) (u : Fin 640 → Fin 512 → ℝ) (a : Fin 512 → Fin 640 → ℝ) (e : Fin 512 → ℝ) (s : Fin 512) : ℝ :=
  e s + ∑ q, (anewT g u a q s - a s q) * ((∑ k, g q k * (anewT g u a k s - a s k)) - 2 * u q s)

/-- The bits of 2.0 are the number 2. -/
theorem lit_two : lit 1073741824#32 = ((2 : ℝ) : EReal) := by
  simp [Ideal.ofBits, Ideal.ieee]
  simp only [← EReal.coe_mul, EReal.coe_eq_coe_iff]
  norm_num

section Pay
variable (v0 : Vec Ideal S1x512x640 .f32) (v3 : Vec Ideal S1x640x512 .f32) (v5 v7 : Vec Ideal S1x1x640x640 .f32)
  (g : Fin 640 → Fin 640 → ℝ) (u : Fin 640 → Fin 512 → ℝ) (a : Fin 512 → Fin 640 → ℝ)

/-- The new factor, held transposed, from the transposed projection, the two Gram matrices and the old factor. -/
theorem pay6_apply (h0 : ∀ s k, v0 (ix3 0 s k) = ((a s k : ℝ) : EReal)) (h3 : ∀ q s, v3 (ix3 0 q s) = ((u q s : ℝ) : EReal))
    (h5 : ∀ q k, v5 (ix4 0 0 q k) = (0 : EReal)) (h7 : ∀ q k, v7 (ix4 0 0 q k) = ((g q k : ℝ) : EReal)) (q : Fin 640) (s : Fin 512) :
    k2_pay6 v0 v3 v5 v7 (ix2 q s) = ((anewT g u a q s : ℝ) : EReal) := by
  pointwise [k2_pay6, k2_pay5, k2_pay4, k2_pay3]
  simp only [h0, h3, h5, h7, add_zero]
  rw [anewT, EReal.coe_add, coe_sum]
  simp only [EReal.coe_mul]
  refine congrArg (_ + ·) ?_
  refine cat_sum_of (n := 640) rfl (fun k => ((g q k : ℝ) : EReal)) (fun k => ((g q k : ℝ) : EReal) - ((g q k : ℝ) : EReal))
    (fun k => ((g q k : ℝ) : EReal) - ((g q k : ℝ) : EReal) - (((g q k : ℝ) : EReal) - ((g q k : ℝ) : EReal)))
    (fun k => ((a s k : ℝ) : EReal)) (fun k => ((a s k : ℝ) : EReal) - ((a s k : ℝ) : EReal))
    (fun k => ((a s k : ℝ) : EReal) - ((a s k : ℝ) : EReal) - (((a s k : ℝ) : EReal) - ((a s k : ℝ) : EReal)))
    (fun k => coe_sub_self _) (fun k => by simp only [coe_sub_self, sub_zero]) (fun k => coe_sub_self _) (fun k => by simp only [coe_sub_self, sub_zero])

/-- The change of the factor: the new one less the old one. -/
theorem pay7_apply (h0 : ∀ s k, v0 (ix3 0 s k) = ((a s k : ℝ) : EReal)) (h3 : ∀ q s, v3 (ix3 0 q s) = ((u q s : ℝ) : EReal))
    (h5 : ∀ q k, v5 (ix4 0 0 q k) = (0 : EReal)) (h7 : ∀ q k, v7 (ix4 0 0 q k) = ((g q k : ℝ) : EReal)) (q : Fin 640) (s : Fin 512) :
    k2_pay7 v0 v3 v5 v7 (ix2 q s) = ((anewT g u a q s - a s q : ℝ) : EReal) := by
  rw [EReal.coe_sub, ← pay6_apply v0 v3 v5 v7 g u a h0 h3 h5 h7, ← h0]
  pointwise [k2_pay7, k2_pay3]

/-- The Gram matrix times the change of the factor. -/
theorem pay8_apply (h0 : ∀ s k, v0 (ix3 0 s k) = ((a s k : ℝ) : EReal)) (h3 : ∀ q s, v3 (ix3 0 q s) = ((u q s : ℝ) : EReal))
    (h5 : ∀ q k, v5 (ix4 0 0 q k) = (0 : EReal)) (h7 : ∀ q k, v7 (ix4 0 0 q k) = ((g q k : ℝ) : EReal)) (q : Fin 640) (s : Fin 512) :
    k2_pay8 v0 v3 v5 v7 (ix2 q s) = ((∑ k, g q k * (anewT g u a k s - a s k) : ℝ) : EReal) := by
  have hp := pay7_apply v0 v3 v5 v7 g u a h0 h3 h5 h7
  unfold k2_pay8
  generalize k2_pay7 v0 v3 v5 v7 = p at hp ⊢
  pointwise [k2_pay5]
  simp only [hp, h5, h7, add_zero]
  rw [coe_sum]
  simp only [EReal.coe_mul]
  generalize hd : (fun k => ((anewT g u a k s - a s k : ℝ) : EReal)) = d
  refine cat_sum_of (n := 640) rfl (fun k => ((g q k : ℝ) : EReal)) (fun k => ((g q k : ℝ) : EReal) - ((g q k : ℝ) : EReal))
    (fun k => ((g q k : ℝ) : EReal) - ((g q k : ℝ) : EReal) - (((g q k : ℝ) : EReal) - ((g q k : ℝ) : EReal)))
    (fun k => ((anewT g u a k s - a s k : ℝ) : EReal)) (fun k => ((anewT g u a k s - a s k : ℝ) : EReal) - ((anewT g u a k s - a s k : ℝ) : EReal))
    (fun k => ((anewT g u a k s - a s k : ℝ) : EReal) - ((anewT g u a k s - a s k : ℝ) : EReal) - (((anewT g u a k s - a s k : ℝ) : EReal) - ((anewT g u a k s - a s k : ℝ) : EReal)))
    (fun k => coe_sub_self _) (fun k => by simp only [coe_sub_self, sub_zero]) (fun k => coe_sub_self _) (fun k => by simp only [coe_sub_self, sub_zero])

/-- The squared residual norm from the squared norm of what is left after decoding and the change of the factor. -/
theorem resid_apply (v40 : Vec Ideal S1x1x512 .f32) (e : Fin 512 → ℝ) (he : ∀ s, v40 (ix3 0 0 s) = ((e s : ℝ) : EReal))
    (h0 : ∀ s k, v0 (ix3 0 s k) = ((a s k : ℝ) : EReal)) (h3 : ∀ q s, v3 (ix3 0 q s) = ((u q s : ℝ) : EReal))
    (h5 : ∀ q k, v5 (ix4 0 0 q k) = (0 : EReal)) (h7 : ∀ q k, v7 (ix4 0 0 q k) = ((g q k : ℝ) : EReal)) (s : Fin 512) :
    k2_pay1 (k2_pay4 v3) (k2_pay7 v0 v3 v5 v7) (k2_pay8 v0 v3 v5 v7) v40 (ix3 0 0 s) = ((residT g u a e s : ℝ) : EReal) := by
  have hp := pay7_apply v0 v3 v5 v7 g u a h0 h3 h5 h7
  have hy := pay8_apply v0 v3 v5 v7 g u a h0 h3 h5 h7
  generalize k2_pay7 v0 v3 v5 v7 = p at hp ⊢
  generalize k2_pay8 v0 v3 v5 v7 = r at hy ⊢
  pointwise [k2_pay1, k2_pay4]
  simp only [hp, hy, he, h3]
  have l := lit_two
  simp only [lit] at l
  rw [l, residT, EReal.coe_add, coe_sum]
  simp only [EReal.coe_mul, EReal.coe_sub]
end Pay

/-- Every window of the last call shows the block of the point's batch. -/
theorem idx2 : ∀ t : Fin cfg2.N, win2_0.index t = ![t.val, 0, 0] ∧ win2_1.index t = ![t.val, 0, 0, 0]
    ∧ win2_2.index t = ![t.val, 0, 0] ∧ win2_3.index t = ![t.val, 0, 0]
    ∧ win2_4.index t = ![t.val, 0, 0] ∧ win2_5.index t = ![t.val, 0, 0] :=
  (by decide +kernel : ∀ t : Fin grid2.N, _)

variable {a : Fin 2 → Fin 512 → Fin 640 → ℝ} {g : Fin 2 → Fin 640 → Fin 640 → ℝ} {u : Fin 2 → Fin 640 → Fin 512 → ℝ} {e : Fin 2 → Fin 512 → ℝ}

/-- The arrays at the entry of the third region. -/
structure Holds2 (V : (c : Dev nD) → (b : Ref sig .tc) → Buf (Elt Ideal) ((c : Thread nD τ).loc b)) (a : Fin 2 → Fin 512 → Fin 640 → ℝ)
    (g : Fin 2 → Fin 640 → Fin 640 → ℝ) (u : Fin 2 → Fin 640 → Fin 512 → ℝ) (e : Fin 2 → Fin 512 → ℝ) (c : Dev nD) : Prop where
  ha : ∀ z s k, V c main_arg1 (ix3 z s k) = ((a z s k : ℝ) : EReal)
  hg0 : ∀ z q k, V c main_v0_5 (ix4 z 0 q k) = ((g z q k : ℝ) : EReal)
  hg1 : ∀ z q k, V c main_v0_5 (ix4 z 1 q k) = (0 : EReal)
  hu : ∀ z q s, V c main_v1_0 (ix3 z q s) = ((u z q s : ℝ) : EReal)
  he : ∀ z s, V c main_v1_1 (ix3 z 0 s) = ((e z s : ℝ) : EReal)

/-- The point's batch. -/
def batch2 (t : Fin cfg2.N) : Fin 2 := ⟨t.val, t.isLt⟩

/-- The load of the old factor reads the point's batch. -/
theorem ld2_0 (c : Dev nD) (H : Holds2 V a g u e c) (t : Fin cfg2.N) (s : Fin 512) (k : Fin 640) :
    View.ld (iblk2 V c 0 t) r2_0 (ix3 0 s k) = ((a (batch2 t) s k : ℝ) : EReal) := by
  refine Eq.trans ?_ (H.ha (batch2 t) s k)
  pointwise [View.ld, iblk2, r2_0]
  blk_ext [idx2 t, batch2]

/-- The load of the projection reads the point's batch. -/
theorem ld2_1 (c : Dev nD) (H : Holds2 V a g u e c) (t : Fin cfg2.N) (q : Fin 640) (s : Fin 512) :
    View.ld (iblk2 V c 2 t) r2_1 (ix3 0 q s) = ((u (batch2 t) q s : ℝ) : EReal) := by
  refine Eq.trans ?_ (H.hu (batch2 t) q s)
  pointwise [View.ld, iblk2, r2_1]
  blk_ext [idx2 t, batch2]

/-- The load of the second Gram matrix reads zeros. -/
theorem ld2_2 (c : Dev nD) (H : Holds2 V a g u e c) (t : Fin cfg2.N) (q k : Fin 640) :
    View.ld (iblk2 V c 1 t) r2_2 (ix4 0 0 q k) = (0 : EReal) := by
  refine Eq.trans ?_ (H.hg1 (batch2 t) q k)
  pointwise [View.ld, iblk2, r2_2]
  blk_ext [idx2 t, batch2]

/-- The load of the first Gram matrix reads the point's batch. -/
theorem ld2_3 (c : Dev nD) (H : Holds2 V a g u e c) (t : Fin cfg2.N) (q k : Fin 640) :
    View.ld (iblk2 V c 1 t) r2_3 (ix4 0 0 q k) = ((g (batch2 t) q k : ℝ) : EReal) := by
  refine Eq.trans ?_ (H.hg0 (batch2 t) q k)
  pointwise [View.ld, iblk2, r2_3]
  blk_ext [idx2 t, batch2]

/-- The load of the squared norms reads the point's batch. -/
theorem ld2_4 (c : Dev nD) (H : Holds2 V a g u e c) (t : Fin cfg2.N) (s : Fin 512) :
    View.ld (iblk2 V c 3 t) r2_4 (ix3 0 0 s) = ((e (batch2 t) s : ℝ) : EReal) := by
  refine Eq.trans ?_ (H.he (batch2 t) s)
  pointwise [View.ld, iblk2, r2_4]
  blk_ext [idx2 t, batch2]

/-- After the last call the array of new factors holds the closed form. -/
theorem arr2_4 (c : Dev nD) (H : Holds2 V a g u e c) :
    (dat2 V c).arrAt 4 cfg2.N = fun i : S2x512x640.Idx => ((anewT (g (i 0)) (u (i 0)) (a (i 0)) (i 2) (i 1) : ℝ) : EReal) := by
  refine (dat2 V c).arrAt_eq_of_covers 4 _ (by decide +kernel) fun t hf y => ?_
  have hp := pay6_apply _ _ _ _ _ _ _ (ld2_0 V c H t) (ld2_1 V c H t) (ld2_2 V c H t) (ld2_3 V c H t) (y 2) (y 1)
  blk_simp
  rw [after2_4, out2_4]
  generalize k2_pay6 (F := Ideal) _ _ _ _ = p at hp ⊢
  canon_tiles x h
  pointwise [k2_pay2]
  refine Eq.trans ?_ (hp.trans ?_)
  · blk_ext
    all_goals omega
  · refine congrArg _ (eq3 (fun z q s => anewT (g z) (u z) (a z) q s) ?_ ?_ ?_)
    all_goals
      refine Fin.ext ?_
      blk_simp [idx2 t, batch2]
      all_goals try dsimp only
      all_goals try omega

/-- After the last call the array of squared residual norms holds the closed form. -/
theorem arr2_5 (c : Dev nD) (H : Holds2 V a g u e c) :
    (dat2 V c).arrAt 5 cfg2.N = fun i : S2x1x512.Idx => ((residT (g (i 0)) (u (i 0)) (a (i 0)) (e (i 0)) (i 2) : ℝ) : EReal) := by
  refine (dat2 V c).arrAt_eq_of_covers 5 _ (by decide +kernel) fun t hf y => ?_
  have hp := resid_apply _ _ _ _ _ _ _ _ _ (ld2_4 V c H t) (ld2_0 V c H t) (ld2_1 V c H t) (ld2_2 V c H t) (ld2_3 V c H t) (y 2)
  blk_simp
  rw [after2_5, out2_5]
  generalize k2_pay1 (F := Ideal) _ _ _ _ = p at hp ⊢
  canon_tiles x h
  refine Eq.trans ?_ (hp.trans ?_)
  · blk_ext
    all_goals omega
  · refine congrArg _ (congrArg₂ (fun z s => residT (g z) (u z) (a z) (e z) s) ?_ ?_)
    all_goals
      refine Fin.ext ?_
      blk_simp [idx2 t, batch2]
      all_goals try dsimp only
      all_goals try omega
end Cert.KernelIdeal.Gen
-- ==== Proof.Value.Kernel.lean ====
module

public import proofs.«01_k».proof.Proof.Frame.Whole
public import proofs.«01_k».proof.Proof.Value.QuantArrays
public import proofs.«01_k».proof.Proof.Value.LstsqArrays
public import proofs.«01_k».proof.Proof.Value.Finish

/-! The six results of the kernel, from real arguments, in closed form. -/

@[expose] public section

set_option maxRecDepth 16384

noncomputable section

namespace Cert.KernelIdeal.Gen

open Cert.KernelIdeal Idealize.ShloMosaic Idealize.ShloMosaic.TcCoe Idealize.SL.Sem
open Idealize.ShloMosaic.Pipeline (Dat)
open Cert.Nf4

variable (m : (ℓ : Loc nD τ sig) → Buf (Elt Ideal) ℓ) (ρ : Dev nD → PrngReg)
variable {w : Fin 2 → Fin 512 → Fin 18432 → ℝ} {a : Fin 2 → Fin 512 → Fin 640 → ℝ} {b : Fin 2 → Fin 18432 → Fin 640 → ℝ}

/-- The Gram matrix of the second factor. -/
def gram (b : Fin 2 → Fin 18432 → Fin 640 → ℝ) (z : Fin 2) (q k : Fin 640) : ℝ := ∑ d, b z d q * b z d k

/-- The second factor times what is left of the differences. -/
def proj (b : Fin 2 → Fin 18432 → Fin 640 → ℝ) (v : Fin 2 → Fin 18432 → Fin 512 → ℝ) (z : Fin 2) (q : Fin 640) (s : Fin 512) : ℝ :=
  ∑ d, b z d q * restR v z d s

/-- The sum of squares of what is left of the differences. -/
def sqr (v : Fin 2 → Fin 18432 → Fin 512 → ℝ) (z : Fin 2) (s : Fin 512) : ℝ := ∑ d, restR v z d s * restR v z d s

/-- What the second region finds. -/
theorem holds1 (c : Dev nD) (H : Holds0 (V0 m ρ) w a b c) : Holds1 (V1 m ρ) (diff w a b) b c where
  hv z d s := congrFun ((W1_arr m ρ c 3).trans (arr0_3 (V0 m ρ) c H)) (ix3 z d s)
  hc z d s := congrFun ((W1_arr m ρ c 4).trans (arr0_4 (V0 m ρ) c H)) (ix3 z d s)
  hs z n s := congrFun ((W1_arr m ρ c 6).trans (arr0_6 (V0 m ρ) c H)) (ix3 z n s)
  hb z k q d := congrFun ((W1_arr m ρ c 7).trans (arr0_7 (V0 m ρ) c H)) (ix4 z k q d)

/-- What the third region finds. -/
theorem holds2 (c : Dev nD) (H : Holds0 (V0 m ρ) w a b c) : Holds2 (V2 m ρ) a (gram b) (proj b (diff w a b)) (sqr (diff w a b)) c where
  ha z s k := (congrFun ((W2_args m ρ c main_arg1 (by decide))) (ix3 z s k)).trans (H.ha z s k)
  hg0 z q k := by
    refine (congrFun ((W2_of m ρ c main_v0_5 (by decide +kernel)).trans ((W1_arr m ρ c 8).trans (arr0_8 (V0 m ρ) c H))) (ix4 z 0 q k)).trans ?_
    exact (if_pos rfl).trans (coe_sum _ _).symm
  hg1 z q k := by
    refine (congrFun ((W2_of m ρ c main_v0_5 (by decide +kernel)).trans ((W1_arr m ρ c 8).trans (arr0_8 (V0 m ρ) c H))) (ix4 z 1 q k)).trans ?_
    exact if_neg (by decide : ¬ (1 : Fin 2).val = 0)
  hu z q s := (congrFun ((W2_arr m ρ c 4).trans (arr1_4 (V1 m ρ) c (holds1 m ρ c H))) (ix3 z q s)).trans (coe_sum _ _).symm
  he z s := (congrFun ((W2_arr m ρ c 5).trans (arr1_5 (V1 m ρ) c (holds1 m ρ c H))) (ix3 z 0 s)).trans (coe_sum _ _).symm

/-- The new first factor. -/
theorem end_anew (c : Dev nD) (H : Holds0 (V0 m ρ) w a b c) : W4 m ρ c (Proc.devRef .tc main_v2_0)
    = fun i : S2x512x640.Idx => ((anewT (gram b (i 0)) (proj b (diff w a b) (i 0)) (a (i 0)) (i 2) (i 1) : ℝ) : EReal) :=
  (W4_of m ρ c main_v2_0 (by decide +kernel)).trans ((W3_arr m ρ c 4).trans (arr2_4 (V2 m ρ) c (holds2 m ρ c H)))

/-- The new sums of squares. -/
theorem end_resid (c : Dev nD) (H : Holds0 (V0 m ρ) w a b c) : W4 m ρ c (Proc.devRef .tc main_v3)
    = fun i : S2x512.Idx => ((residT (gram b (i 0)) (proj b (diff w a b) (i 0)) (a (i 0)) (sqr (diff w a b) (i 0)) (i 1) : ℝ) : EReal) := by
  have h : W4 m ρ c (Proc.devRef .tc main_v3) = shapeCast S2x512 (W3 m ρ c (Proc.devRef .tc main_v2_1)) shapeCasts_S2x1x512_S2x512 := by rfl
  rw [h, (W3_arr m ρ c 5 : W3 m ρ c (Proc.devRef .tc main_v2_1) = _), arr2_5 (V2 m ρ) c (holds2 m ρ c H)]
  funext i
  pointwise

/-- The packed codes. -/
theorem end_q (c : Dev nD) (H : Holds0 (V0 m ρ) w a b c) : W4 m ρ c (Proc.devRef .tc main_v0_2)
    = fun i : S2x512x9216.Idx => (fun (z : Fin 2) (s : Fin 512) (h : Fin 9216) => (pairWord
        (codeWord (scaled (fun z d s => ((diff w a b z d s : ℝ) : EReal)) z ⟨2 * h.val, by omega⟩ s))
        (codeWord (scaled (fun z d s => ((diff w a b z d s : ℝ) : EReal)) z ⟨2 * h.val + 1, by omega⟩ s))).setWidth 8)
        (i 0) (i 1) (i 2) :=
  (W4_of m ρ c main_v0_2 (by decide +kernel)).trans ((W3_of m ρ c main_v0_2 (by decide +kernel)).trans ((W2_of m ρ c main_v0_2 (by decide +kernel)).trans
    ((W1_arr m ρ c 5).trans (arr0_5 (V0 m ρ) c H))))

/-- The scales. -/
theorem end_scale (c : Dev nD) (H : Holds0 (V0 m ρ) w a b c) : W4 m ρ c (Proc.devRef .tc main_v1_4)
    = fun i : S2x512x288.Idx => scale (fun z d s => ((diff w a b z d s : ℝ) : EReal)) (i 0) (i 2) (i 1) :=
  (W4_of m ρ c main_v1_4 (by decide +kernel)).trans ((W3_of m ρ c main_v1_4 (by decide +kernel)).trans ((W2_arr m ρ c 8).trans (arr1_8 (V1 m ρ) c (holds1 m ρ c H))))

/-- The codes of the scales. -/
theorem end_codes (c : Dev nD) (H : Holds0 (V0 m ρ) w a b c) : W4 m ρ c (Proc.devRef .tc main_v1_2)
    = fun i : S2x512x288.Idx => FloatOps.fptosi (F := Ideal) (φ := .f32) 8 (qcode (fun z d s => ((diff w a b z d s : ℝ) : EReal)) (i 0) (i 2) (i 1)) :=
  (W4_of m ρ c main_v1_2 (by decide +kernel)).trans ((W3_of m ρ c main_v1_2 (by decide +kernel)).trans ((W2_arr m ρ c 6).trans (arr1_6 (V1 m ρ) c (holds1 m ρ c H))))

/-- The scales of the scales. -/
theorem end_top (c : Dev nD) (H : Holds0 (V0 m ρ) w a b c) : W4 m ρ c (Proc.devRef .tc main_v4)
    = fun i : S2x512.Idx => top (fun z d s => ((diff w a b z d s : ℝ) : EReal)) (i 0) (i 1) := by
  have h : W4 m ρ c (Proc.devRef .tc main_v4) = shapeCast S2x512 (W3 m ρ c (Proc.devRef .tc main_v1_3)) shapeCasts_S2x1x512_S2x512 := by rfl
  rw [h, W3_of m ρ c main_v1_3 (by decide +kernel), (W2_arr m ρ c 7 : W2 m ρ c (Proc.devRef .tc main_v1_3) = _), arr1_7 (V1 m ρ) c (holds1 m ρ c H)]
  funext i
  pointwise

end Cert.KernelIdeal.Gen
-- ==== Proof.Value.Algebra.lean ====
module

public import proofs.«01_k».proof.Proof.Value.Kernel

/-! The least-squares step over the reals: the product of the residual with the factor, and the squared norm of what is left,
    both written with the Gram matrix. -/

@[expose] public section

set_option maxRecDepth 16384

noncomputable section

namespace Cert.Nf4

open Cert.KernelIdeal.Gen

/-- A sum over the columns is the sum over the even columns and the sum over the odd columns. -/
theorem sum_pairs (f : Fin 18432 → ℝ) :
    ∑ d, f d = (∑ h : Fin 9216, f ⟨2 * h.val, by omega⟩) + ∑ h : Fin 9216, f ⟨2 * h.val + 1, by omega⟩ := by
  have e : ∀ x : Fin 9216 × Fin 2, 2 * x.1.val + x.2.val < 18432 := fun x => by omega
  rw [← Finset.sum_add_distrib]
  have e2 : ∀ h : Fin 9216, f ⟨2 * h.val, by omega⟩ + f ⟨2 * h.val + 1, by omega⟩ = ∑ j : Fin 2, f ⟨2 * h.val + j.val, e (h, j)⟩ := fun h => by
    rw [Fin.sum_univ_two]; rfl
  rw [Finset.sum_congr rfl fun h _ => e2 h, ← Fintype.sum_prod_type' (f := fun (h : Fin 9216) (j : Fin 2) => f ⟨2 * h.val + j.val, e (h, j)⟩)]
  refine (Fintype.sum_bijective (fun x : Fin 9216 × Fin 2 => (⟨2 * x.1.val + x.2.val, e x⟩ : Fin 18432)) ⟨fun x y h => ?_, fun d => ?_⟩ _ _ fun x => rfl).symm
  · have h' : 2 * x.1.val + x.2.val = 2 * y.1.val + y.2.val := congrArg Fin.val h
    exact Prod.ext (Fin.ext (by omega)) (Fin.ext (by omega))
  · exact ⟨(⟨d.val / 2, by omega⟩, ⟨d.val % 2, by omega⟩), Fin.ext (by show 2 * (d.val / 2) + d.val % 2 = d.val; omega)⟩

/-- The squared norm of a vector minus a combination of the columns of a matrix, by way of the Gram matrix. -/
theorem square_eq {D K : Type} [Fintype D] [Fintype K] (r : D → ℝ) (t : K → ℝ) (B : D → K → ℝ) :
    ∑ d, (r d - ∑ k, t k * B d k) * (r d - ∑ k, t k * B d k)
      = ∑ d, r d * r d + ∑ q, t q * ((∑ k, (∑ d, B d q * B d k) * t k) - 2 * ∑ d, B d q * r d) := by
  have h1 : ∑ q, t q * ∑ k, (∑ d, B d q * B d k) * t k = ∑ d, (∑ k, t k * B d k) * ∑ k, t k * B d k := by
    have e : ∀ q, t q * ∑ k, (∑ d, B d q * B d k) * t k = ∑ d, t q * B d q * ∑ k, t k * B d k := fun q => by
      simp only [Finset.sum_mul, Finset.mul_sum]
      rw [Finset.sum_comm]
      exact Finset.sum_congr rfl fun d _ => Finset.sum_congr rfl fun k _ => by ring
    rw [Finset.sum_congr rfl fun q _ => e q, Finset.sum_comm]
    exact Finset.sum_congr rfl fun d _ => (Finset.sum_mul _ _ _).symm
  have h2 : ∑ q, t q * (2 * ∑ d, B d q * r d) = ∑ d, 2 * (r d * ∑ k, t k * B d k) := by
    simp only [Finset.mul_sum]
    rw [Finset.sum_comm]
    exact Finset.sum_congr rfl fun d _ => Finset.sum_congr rfl fun k _ => by ring
  have h3 : ∀ q, t q * ((∑ k, (∑ d, B d q * B d k) * t k) - 2 * ∑ d, B d q * r d)
      = t q * (∑ k, (∑ d, B d q * B d k) * t k) - t q * (2 * ∑ d, B d q * r d) := fun q => mul_sub _ _ _
  rw [Finset.sum_congr rfl fun q _ => h3 q, Finset.sum_sub_distrib, h1, h2, ← Finset.sum_sub_distrib, ← Finset.sum_add_distrib]
  exact Finset.sum_congr rfl fun d _ => by ring

variable (w : Fin 2 → Fin 512 → Fin 18432 → ℝ) (a : Fin 2 → Fin 512 → Fin 640 → ℝ) (b : Fin 2 → Fin 18432 → Fin 640 → ℝ)

/-- What the decoded values leave of `w`, by way of the differences. -/
theorem left_eq (z : Fin 2) (s : Fin 512) (d : Fin 18432) :
    w z s d - valueR (diff w a b) z d s = restR (diff w a b) z d s + ∑ k, b z d k * a z s k := by
  have h : diff w a b z d s = w z s d - ∑ k, b z d k * a z s k := rfl
  unfold restR
  rw [h]
  generalize valueR (diff w a b) z d s = x
  generalize (∑ k, b z d k * a z s k) = y
  ring

/-- The product of the residual with the factor, by way of the Gram matrix. -/
theorem anew_eq (z : Fin 2) (s : Fin 512) (q : Fin 640) :
    ∑ d, (w z s d - valueR (diff w a b) z d s) * b z d q = anewT (gram b z) (proj b (diff w a b) z) (a z) q s := by
  simp only [left_eq, anewT, gram, proj, add_mul, Finset.sum_add_distrib]
  refine congrArg₂ (fun x y : ℝ => x + y) ?_ ?_
  · exact Finset.sum_congr rfl fun d _ => mul_comm _ _
  · simp only [Finset.sum_mul]
    rw [Finset.sum_comm]
    exact Finset.sum_congr rfl fun k _ => Finset.sum_congr rfl fun d _ => by ring

/-- The squared norm of what is left, by way of the Gram matrix. -/
theorem resid_eq (z : Fin 2) (s : Fin 512) (n : Fin 640 → ℝ)
    (hn : ∀ q, n q = anewT (gram b z) (proj b (diff w a b) z) (a z) q s) :
    ∑ d, (w z s d - valueR (diff w a b) z d s - ∑ k, n k * b z d k) * (w z s d - valueR (diff w a b) z d s - ∑ k, n k * b z d k)
      = residT (gram b z) (proj b (diff w a b) z) (a z) (sqr (diff w a b) z) s := by
  unfold residT
  simp only [← hn]
  have h1 : ∀ d, w z s d - valueR (diff w a b) z d s - ∑ k, n k * b z d k = restR (diff w a b) z d s - ∑ k, (n k - a z s k) * b z d k := fun d => by
    rw [left_eq]
    simp only [sub_mul, Finset.sum_sub_distrib, mul_comm (a z s _)]
    ring
  simp only [h1]
  exact square_eq (fun d => restR (diff w a b) z d s) (fun k => n k - a z s k) (fun d k => b z d k)

end Cert.Nf4
-- ==== Proof.Value.RefLstsq.lean ====
module

public import proofs.«01_k».proof.Proof.Value.Ref
public import proofs.«01_k».proof.Proof.Value.Algebra

/-! The two results of the reference's least-squares step, from real arguments, in the closed form of the kernel's. -/

@[expose] public section

set_option maxRecDepth 16384

noncomputable section

namespace Cert.ReferenceIdeal.Read

open Cert.ReferenceIdeal Idealize.ShloMosaic Idealize.ShloMosaic.TcCoe Idealize.SL.Sem
open Cert.Nf4 Cert.KernelIdeal.Gen

variable {w : Fin 2 → Fin 512 → Fin 18432 → ℝ} {a : Fin 2 → Fin 512 → Fin 640 → ℝ} {b : Fin 2 → Fin 18432 → Fin 640 → ℝ}
variable {x0 : FVec Ideal S2x512x18432 .bf16} {x1 : FVec Ideal S2x512x640 .f32} {x2 : FVec Ideal S2x18432x640 .f32}

/-- The even columns of the factor. -/
theorem e5 (H : Holds x0 x1 x2 w a b) (z : Fin 2) (h : Fin 9216) (k : Fin 640) :
    val_main_v5 (F := Ideal) x2 (ix3 z h k) = ((b z ⟨2 * h.val, by omega⟩ k : ℝ) : EReal) := by
  pointwise [val_main_v5, val_main_v4]
  simp only [H.hb]
  refine congrArg₂ (fun (d : Fin 18432) (q : Fin 640) => ((b z d q : ℝ) : EReal)) ?_ ?_ <;> apply Fin.ext
  · show h.val * 2 + k.val / 640 = 2 * h.val
    omega
  · show k.val % 640 = k.val
    omega

/-- The odd columns of the factor. -/
theorem e6 (H : Holds x0 x1 x2 w a b) (z : Fin 2) (h : Fin 9216) (k : Fin 640) :
    val_main_v6 (F := Ideal) x2 (ix3 z h k) = ((b z ⟨2 * h.val + 1, by omega⟩ k : ℝ) : EReal) := by
  pointwise [val_main_v6, val_main_v4]
  simp only [H.hb]
  refine congrArg (fun (d : Fin 18432) => ((b z d k : ℝ) : EReal)) (Fin.ext ?_)
  show h.val * 2 + (640 + k.val) / 640 = 2 * h.val + 1
  omega

/-- The new factor. -/
theorem e268 (H : Holds x0 x1 x2 w a b) (z : Fin 2) (s : Fin 512) (k : Fin 640) :
    val_main_v268 (F := Ideal) x0 x1 x2 (ix3 z s k) = ((anewT (gram b z) (proj b (diff w a b) z) (a z) k s : ℝ) : EReal) := by
  pointwise [val_main_v268, val_main_v267, val_main_v266]
  simp only [e5 H, e6 H, e220 H, e265 H, ← EReal.coe_mul]
  rw [← coe_sum, ← coe_sum, ← EReal.coe_add, ← anew_eq, sum_pairs]

/-- The squared norm of what is left. -/
theorem e277 (H : Holds x0 x1 x2 w a b) (z : Fin 2) (s : Fin 512) :
    val_main_v277 (F := Ideal) x0 x1 x2 (ix2 z s)
      = ((residT (gram b z) (proj b (diff w a b) z) (a z) (sqr (diff w a b) z) s : ℝ) : EReal) := by
  have h270 : ∀ h : Fin 9216, val_main_v270 (F := Ideal) x0 x1 x2 (ix3 z s h)
      = ((w z s ⟨2 * h.val, by omega⟩ - valueR (diff w a b) z ⟨2 * h.val, by omega⟩ s
          - ∑ k, anewT (gram b z) (proj b (diff w a b) z) (a z) k s * b z ⟨2 * h.val, by omega⟩ k : ℝ) : EReal) := fun h => by
    pointwise [val_main_v270, val_main_v269]
    simp only [e5 H, e268 H, e220 H, ← EReal.coe_mul]
    rw [← coe_sum, ← EReal.coe_sub]
  have h272 : ∀ h : Fin 9216, val_main_v272 (F := Ideal) x0 x1 x2 (ix3 z s h)
      = ((w z s ⟨2 * h.val + 1, by omega⟩ - valueR (diff w a b) z ⟨2 * h.val + 1, by omega⟩ s
          - ∑ k, anewT (gram b z) (proj b (diff w a b) z) (a z) k s * b z ⟨2 * h.val + 1, by omega⟩ k : ℝ) : EReal) := fun h => by
    pointwise [val_main_v272, val_main_v271]
    simp only [e6 H, e268 H, e265 H, ← EReal.coe_mul]
    rw [← coe_sum, ← EReal.coe_sub]
  pointwise [val_main_v277, val_main_v276, val_main_v275, val_main_v274, val_main_v273, val_main_cst_97, val_main_cst_98]
  simp only [h270, h272, ← EReal.coe_mul]
  rw [← coe_sum, ← coe_sum, ← EReal.coe_add, ← resid_eq w a b z s _ fun q => rfl, sum_pairs]

/-- The whole new factor. -/
theorem all_anew (H : Holds x0 x1 x2 w a b) : val_main_v268 (F := Ideal) x0 x1 x2
    = fun i : S2x512x640.Idx => ((anewT (gram b (i 0)) (proj b (diff w a b) (i 0)) (a (i 0)) (i 2) (i 1) : ℝ) : EReal) :=
  funext fun i => (congrArg _ (eq_ix3 i)).trans (e268 H (i 0) (i 1) (i 2))

/-- All squared norms. -/
theorem all_resid (H : Holds x0 x1 x2 w a b) : val_main_v277 (F := Ideal) x0 x1 x2
    = fun i : S2x512.Idx => ((residT (gram b (i 0)) (proj b (diff w a b) (i 0)) (a (i 0)) (sqr (diff w a b) (i 0)) (i 1) : ℝ) : EReal) :=
  funext fun i => (congrArg _ (eq_ix2 i)).trans (e277 H (i 0) (i 1))

/-- All bytes of codes. -/
theorem all_q (H : Holds x0 x1 x2 w a b) : val_main_v154 (F := Ideal) x0 x1 x2
    = fun i : S2x512x9216.Idx => (fun (z : Fin 2) (s : Fin 512) (h : Fin 9216) =>
        (pairWord (codeWord (scaled (fun z d s => ((diff w a b z d s : ℝ) : EReal)) z ⟨2 * h.val, by omega⟩ s))
          (codeWord (scaled (fun z d s => ((diff w a b z d s : ℝ) : EReal)) z ⟨2 * h.val + 1, by omega⟩ s))).setWidth 8) (i 0) (i 1) (i 2) :=
  funext fun i => (congrArg _ (eq_ix3 i)).trans (e154 (diffs H) (i 0) (i 1) (i 2))

/-- All scales. -/
theorem all_scale (H : Holds x0 x1 x2 w a b) : val_main_v20 (F := Ideal) x0 x1 x2
    = fun i : S2x512x288.Idx => scale (fun z d s => ((diff w a b z d s : ℝ) : EReal)) (i 0) (i 2) (i 1) :=
  funext fun i => (congrArg _ (eq_ix3 i)).trans (e20 (diffs H) (i 0) (i 1) (i 2))

/-- All rounded scales. -/
theorem all_codes (H : Holds x0 x1 x2 w a b) : val_main_v164 (F := Ideal) x0 x1 x2
    = fun i : S2x512x288.Idx => FloatOps.fptosi (F := Ideal) (φ := .f32) 8 (qcode (fun z d s => ((diff w a b z d s : ℝ) : EReal)) (i 0) (i 2) (i 1)) :=
  funext fun i => (congrArg _ (eq_ix3 i)).trans (e164 (diffs H) (i 0) (i 1) (i 2))

/-- All scales of scales. -/
theorem all_top (H : Holds x0 x1 x2 w a b) : val_main_v157 (F := Ideal) x0 x1 x2
    = fun i : S2x512.Idx => top (fun z d s => ((diff w a b z d s : ℝ) : EReal)) (i 0) (i 1) :=
  funext fun i => (congrArg _ (eq_ix2 i)).trans (e157 (diffs H) (i 0) (i 1))

end Cert.ReferenceIdeal.Read
-- ==== Proof.lean ====
module

public import proofs.«01_k».proof.Proof.Gen.ReferenceIdeal.Read
public import proofs.«01_k».proof.Proof.Gen.ReferenceIdeal.Run
public import proofs.«01_k».proof.Proof.Gen.ReferenceIdeal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Frame.Whole
public import proofs.«01_k».proof.Proof.Frame.Bits
public import proofs.«01_k».proof.Proof.Value.Finite
public import proofs.«01_k».proof.Proof.Value.RefLstsq
public import Idealize.ShloMosaic.Adequacy
public import Idealize.ShloMosaic.Init

@[expose] public section

noncomputable section

namespace Cert.Proof

open Idealize.ShloMosaic Idealize.SL.Sem Cert.Kernel

/-- The three arguments as reals, indexed as in the closed forms. -/
def argW (m : (ℓ : Loc Cert.KernelIdeal.nD Cert.KernelIdeal.τ Cert.KernelIdeal.sig) → Buf (Elt Ideal) ℓ) (c : Dev Cert.KernelIdeal.nD)
    (z : Fin 2) (s : Fin 512) (d : Fin 18432) : ℝ :=
  ((m ((c.tc : Thread Cert.KernelIdeal.nD Cert.KernelIdeal.τ).loc Cert.KernelIdeal.main_arg0) : FVec Ideal Cert.KernelIdeal.S2x512x18432 .bf16) (ix3 z s d) : EReal).toReal
/-- The second argument as reals. -/
def argA (m : (ℓ : Loc Cert.KernelIdeal.nD Cert.KernelIdeal.τ Cert.KernelIdeal.sig) → Buf (Elt Ideal) ℓ) (c : Dev Cert.KernelIdeal.nD)
    (z : Fin 2) (s : Fin 512) (k : Fin 640) : ℝ :=
  ((m ((c.tc : Thread Cert.KernelIdeal.nD Cert.KernelIdeal.τ).loc Cert.KernelIdeal.main_arg1) : FVec Ideal Cert.KernelIdeal.S2x512x640 .f32) (ix3 z s k) : EReal).toReal
/-- The third argument as reals. -/
def argB (m : (ℓ : Loc Cert.KernelIdeal.nD Cert.KernelIdeal.τ Cert.KernelIdeal.sig) → Buf (Elt Ideal) ℓ) (c : Dev Cert.KernelIdeal.nD)
    (z : Fin 2) (d : Fin 18432) (k : Fin 640) : ℝ :=
  ((m ((c.tc : Thread Cert.KernelIdeal.nD Cert.KernelIdeal.τ).loc Cert.KernelIdeal.main_arg2) : FVec Ideal Cert.KernelIdeal.S2x18432x640 .f32) (ix3 z d k) : EReal).toReal

/-- The reference leaves its arguments as they were, and it has no counters. -/
theorem frameRef (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2.2, Idealize.ShloMosaic.sem_eq_zero_of_no_sems (by decide) r.2⟩)
    (Cert.ReferenceIdeal.Value.run (F := Ideal) m ρ)

/-- Kernel and reference end with equal results: both end with the closed forms of the same reals. -/
theorem algebraic : Cert.algebraic_KernelIdeal_ReferenceIdeal_pre_finite := by
  intro m g m' g' hpre hagree
  have hr := fun c => Cert.Pre_finite.Gen.reals _ _ _ (hpre c)
  have H : ∀ c, Cert.KernelIdeal.Gen.Holds0 (Cert.KernelIdeal.Gen.V0 m g) (argW m c) (argA m c) (argB m c) c := fun c =>
    ⟨fun z s d => (hr c).1 (ix3 z s d), fun z s k => (hr c).2.1 (ix3 z s k), fun z d k => (hr c).2.2 (ix3 z d k)⟩
  have H' : ∀ c : Dev Cert.KernelIdeal.nD, Cert.ReferenceIdeal.Read.Holds
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (argW m c) (argA m c) (argB m c) := fun c =>
    ⟨fun z s d => (congrFun (hagree c).1 _).trans ((hr c).1 (ix3 z s d)), fun z s k => (congrFun (hagree c).2.1 _).trans ((hr c).2.1 (ix3 z s k)),
      fun z d k => (congrFun (hagree c).2.2 _).trans ((hr c).2.2 (ix3 z d k))⟩
  refine ⟨fun c => Cert.KernelIdeal.Gen.W4 m g c (Proc.devRef .tc Cert.KernelIdeal.main_v2_0), fun c => Cert.KernelIdeal.Gen.W4 m g c (Proc.devRef .tc Cert.KernelIdeal.main_v3),
    fun c => Cert.KernelIdeal.Gen.W4 m g c (Proc.devRef .tc Cert.KernelIdeal.main_v0_2), fun c => Cert.KernelIdeal.Gen.W4 m g c (Proc.devRef .tc Cert.KernelIdeal.main_v1_4),
    fun c => Cert.KernelIdeal.Gen.W4 m g c (Proc.devRef .tc Cert.KernelIdeal.main_v1_2), fun c => Cert.KernelIdeal.Gen.W4 m g c (Proc.devRef .tc Cert.KernelIdeal.main_v4), ?_, ?_⟩
  · exact (θ_run Cert.KernelIdeal.defs _ _).mono (fun r h c =>
      ⟨h.1 c _ (Cert.KernelIdeal.Gen.mem_uc Cert.KernelIdeal.main_v2_0 (by decide)), h.1 c _ (Cert.KernelIdeal.Gen.mem_uc Cert.KernelIdeal.main_v3 (by decide)),
       h.1 c _ (Cert.KernelIdeal.Gen.mem_uc Cert.KernelIdeal.main_v0_2 (by decide)), h.1 c _ (Cert.KernelIdeal.Gen.mem_uc Cert.KernelIdeal.main_v1_4 (by decide)),
       h.1 c _ (Cert.KernelIdeal.Gen.mem_uc Cert.KernelIdeal.main_v1_2 (by decide)), h.1 c _ (Cert.KernelIdeal.Gen.mem_uc Cert.KernelIdeal.main_v4 (by decide)),
       (h.1 c _ (Cert.KernelIdeal.Gen.mem_uc Cert.KernelIdeal.main_arg0 (by decide))).trans (Cert.KernelIdeal.Gen.W4_main_arg0 m g c),
       (h.1 c _ (Cert.KernelIdeal.Gen.mem_uc Cert.KernelIdeal.main_arg1 (by decide))).trans (Cert.KernelIdeal.Gen.W4_main_arg1 m g c),
       (h.1 c _ (Cert.KernelIdeal.Gen.mem_uc Cert.KernelIdeal.main_arg2 (by decide))).trans (Cert.KernelIdeal.Gen.W4_main_arg2 m g c)⟩)
      (Cert.KernelIdeal.Gen.ends m g)
  · exact (θ_run Cert.ReferenceIdeal.defs _ _).mono (fun r h c =>
      ⟨(h c).1.trans (((Cert.ReferenceIdeal.Read.val_main_v268_eq _).trans (Cert.ReferenceIdeal.Read.all_anew (H' c))).trans (Cert.KernelIdeal.Gen.end_anew m g c (H c)).symm),
       (h c).2.1.trans (((Cert.ReferenceIdeal.Read.val_main_v277_eq _).trans (Cert.ReferenceIdeal.Read.all_resid (H' c))).trans (Cert.KernelIdeal.Gen.end_resid m g c (H c)).symm),
       (h c).2.2.1.trans (((Cert.ReferenceIdeal.Read.val_main_v154_eq _).trans (Cert.ReferenceIdeal.Read.all_q (H' c))).trans (Cert.KernelIdeal.Gen.end_q m g c (H c)).symm),
       (h c).2.2.2.1.trans (((Cert.ReferenceIdeal.Read.val_main_v20_eq _).trans (Cert.ReferenceIdeal.Read.all_scale (H' c))).trans (Cert.KernelIdeal.Gen.end_scale m g c (H c)).symm),
       (h c).2.2.2.2.1.trans (((Cert.ReferenceIdeal.Read.val_main_v164_eq _).trans (Cert.ReferenceIdeal.Read.all_codes (H' c))).trans (Cert.KernelIdeal.Gen.end_codes m g c (H c)).symm),
       (h c).2.2.2.2.2.1.trans (((Cert.ReferenceIdeal.Read.val_main_v157_eq _).trans (Cert.ReferenceIdeal.Read.all_top (H' c))).trans (Cert.KernelIdeal.Gen.end_top m g c (H c)).symm),
       (h c).2.2.2.2.2.2⟩)
      (Cert.ReferenceIdeal.Value.run (F := Ideal) m' g')

/-- Everything claimed. -/
theorem claim : Cert.Claim :=
  ⟨Cert.Kernel.Gen.facts, Cert.KernelIdeal.Gen.facts, Cert.ReferenceIdeal.Gen.facts, Cert.Pre_finite.Gen.facts, frameBits,
    fun m ρ _ => Cert.KernelIdeal.Gen.frame m ρ, fun m ρ _ => Cert.KernelIdeal.Gen.frame m ρ, fun m ρ _ => frameRef m ρ, fun m ρ _ => frameRef m ρ, trivial, algebraic⟩

end Cert.Proof

end
